-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "score_scale" .f32 0x3E0293EE#32 (((Real.sqrt 128)⁻¹ * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x1024x12x128 : Shape := ⟨4, ![2, 1024, 12, 128]⟩
abbrev S2x12 : Shape := ⟨2, ![2, 12]⟩
abbrev S2x1024x12 : Shape := ⟨3, ![2, 1024, 12]⟩
abbrev S_ : Shape := ⟨0, ![]⟩

class Facts : Prop where
  natLt_8_32 : 8 < 32
  bcast_S_S2x1024x12x128 : S_.BroadcastsInDim S2x1024x12x128 (![] : Fin 0 → Fin S2x1024x12x128.rank)
  reducesTo_S2x1024x12x128_S_d0_1_2_3 : S2x1024x12x128.ReducesTo [0, 1, 2, 3] S_
  h_S_ : 0 < S_.numel
  bcast_S_S2x12 : S_.BroadcastsInDim S2x12 (![] : Fin 0 → Fin S2x12.rank)
  reducesTo_S2x12_S_d0_1 : S2x12.ReducesTo [0, 1] S_
  bcast_S_S2x1024x12 : S_.BroadcastsInDim S2x1024x12 (![] : Fin 0 → Fin S2x1024x12.rank)
  reducesTo_S2x1024x12_S_d0_1_2 : S2x1024x12.ReducesTo [0, 1, 2] S_

variable [Facts]

def fn_part1 {F : FTy → Type} [FloatOps F] (main_arg3 : FVec F S2x1024x12 .f32) (main_v10 : IVec S_ 1) (main_v15 : IVec S2x1024x12x128 1) (main_c_5 : IVec S_ 1) : IVec S_ 1 :=
  let main_v16 : IVec S_ 1 := (fun x v => Host.reduce IntOp.andi x v reducesTo_S2x1024x12x128_S_d0_1_2_3 h_S_) main_v15 main_c_5
  let main_v17 : IVec S_ 1 := andi main_v10 main_v16
  let main_v18 : FVec F S2x1024x12 .f32 := Host.absf main_arg3
  let main_cst_6 : FVec F S_ .f32 := constant S_ .f32 0x7F800000#32
  let main_v19 : FVec F S2x1024x12 .f32 := broadcastInDim S2x1024x12 ![] bcast_S_S2x1024x12 main_cst_6
  let main_v20 : IVec S2x1024x12 1 := cmpf .olt main_v18 main_v19
  let main_c_7 : IVec S_ 1 := constantI S_ 1 1#1
  let main_v21 : IVec S_ 1 := (fun x v => Host.reduce IntOp.andi x v reducesTo_S2x1024x12_S_d0_1_2 h_S_) main_v20 main_c_7
  let main_v22 : IVec S_ 1 := andi main_v17 main_v21
  main_v22

def fn {F : FTy → Type} [FloatOps F] (main_arg0 : IVec S2x1024x12x128 8) (main_arg1 : FVec F S2x12 .f32) (main_arg2 : IVec S2x1024x12x128 8) (main_arg3 : FVec F S2x1024x12 .f32) (main_arg4 : IVec S2x1024x12x128 8) (main_arg5 : FVec F S2x1024x12 .f32) : IVec S_ 1 :=
  let main_v0 : IVec S2x1024x12x128 32 := (extui 32 · natLt_8_32) main_arg0
  let main_c : IVec S_ 32 := constantI S_ 32 127#32
  let main_v1 : IVec S2x1024x12x128 32 := broadcastInDim S2x1024x12x128 ![] bcast_S_S2x1024x12x128 main_c
  let main_v2 : IVec S2x1024x12x128 32 := andi main_v0 main_v1
  let main_c_0 : IVec S_ 32 := constantI S_ 32 127#32
  let main_v3 : IVec S2x1024x12x128 32 := broadcastInDim S2x1024x12x128 ![] bcast_S_S2x1024x12x128 main_c_0
  let main_v4 : IVec S2x1024x12x128 1 := cmpi .ne main_v2 main_v3
  let main_c_1 : IVec S_ 1 := constantI S_ 1 1#1
  let main_v5 : IVec S_ 1 := (fun x v => Host.reduce IntOp.andi x v reducesTo_S2x1024x12x128_S_d0_1_2_3 h_S_) main_v4 main_c_1
  let main_v6 : FVec F S2x12 .f32 := Host.absf main_arg1
  let main_cst : FVec F S_ .f32 := constant S_ .f32 0x7F800000#32
  let main_v7 : FVec F S2x12 .f32 := broadcastInDim S2x12 ![] bcast_S_S2x12 main_cst
  let main_v8 : IVec S2x12 1 := cmpf .olt main_v6 main_v7
  let main_c_2 : IVec S_ 1 := constantI S_ 1 1#1
  let main_v9 : IVec S_ 1 := (fun x v => Host.reduce IntOp.andi x v reducesTo_S2x12_S_d0_1 h_S_) main_v8 main_c_2
  let main_v10 : IVec S_ 1 := andi main_v5 main_v9
  let main_v11 : IVec S2x1024x12x128 32 := (extui 32 · natLt_8_32) main_arg2
  let main_c_3 : IVec S_ 32 := constantI S_ 32 127#32
  let main_v12 : IVec S2x1024x12x128 32 := broadcastInDim S2x1024x12x128 ![] bcast_S_S2x1024x12x128 main_c_3
  let main_v13 : IVec S2x1024x12x128 32 := andi main_v11 main_v12
  let main_c_4 : IVec S_ 32 := constantI S_ 32 127#32
  let main_v14 : IVec S2x1024x12x128 32 := broadcastInDim S2x1024x12x128 ![] bcast_S_S2x1024x12x128 main_c_4
  let main_v15 : IVec S2x1024x12x128 1 := cmpi .ne main_v13 main_v14
  let main_c_5 : IVec S_ 1 := constantI S_ 1 1#1
  fn_part1 (F := F) main_arg3 main_v10 main_v15 main_c_5
-- ==== Kernel.lean ====
abbrev S2x1024x12x128 : Shape := ⟨4, ![2, 1024, 12, 128]⟩
abbrev S2x12 : Shape := ⟨2, ![2, 12]⟩
abbrev S2x1024x12 : Shape := ⟨3, ![2, 1024, 12]⟩
abbrev S2x12x1024x128 : Shape := ⟨4, ![2, 12, 1024, 128]⟩
abbrev S12x2x1024 : Shape := ⟨3, ![12, 2, 1024]⟩
abbrev S2x1024x1536 : Shape := ⟨3, ![2, 1024, 1536]⟩
abbrev S1x1x1024x128 : Shape := ⟨4, ![1, 1, 1024, 128]⟩
abbrev S1x1024x128 : Shape := ⟨3, ![1, 1024, 128]⟩
abbrev S128x2x4x128 : Shape := ⟨4, ![128, 2, 4, 128]⟩
abbrev S128x1024 : Shape := ⟨2, ![128, 1024]⟩
abbrev S1024x128 : Shape := ⟨2, ![1024, 128]⟩
abbrev S128x128 : Shape := ⟨2, ![128, 128]⟩
abbrev S4x1024x256 : Shape := ⟨3, ![4, 1024, 256]⟩
abbrev S32x128 : Shape := ⟨2, ![32, 128]⟩
abbrev S8x4x128 : Shape := ⟨3, ![8, 4, 128]⟩
abbrev S8x1x4x128 : Shape := ⟨4, ![8, 1, 4, 128]⟩
abbrev S1x1x1024 : Shape := ⟨3, ![1, 1, 1024]⟩
abbrev S1x1024 : Shape := ⟨2, ![1, 1024]⟩
abbrev S8x128 : Shape := ⟨2, ![8, 128]⟩
abbrev S1x1 : Shape := ⟨2, ![1, 1]⟩
abbrev S8x128x1 : Shape := ⟨3, ![8, 128, 1]⟩
abbrev S1x128 : Shape := ⟨2, ![1, 128]⟩
abbrev S32x2x4x128 : Shape := ⟨4, ![32, 2, 4, 128]⟩
abbrev S256x128 : Shape := ⟨2, ![256, 128]⟩
abbrev S1x1x256x128 : Shape := ⟨4, ![1, 1, 256, 128]⟩
abbrev S256x256 : Shape := ⟨2, ![256, 256]⟩
abbrev S1x256x256 : Shape := ⟨3, ![1, 256, 256]⟩
abbrev S1x1024x256 : Shape := ⟨3, ![1, 1024, 256]⟩
abbrev S1024x256 : Shape := ⟨2, ![1024, 256]⟩
abbrev S16x128 : Shape := ⟨2, ![16, 128]⟩
abbrev S1x16x128 : Shape := ⟨3, ![1, 16, 128]⟩
abbrev S128x256 : Shape := ⟨2, ![128, 256]⟩
abbrev S1x256x128 : Shape := ⟨3, ![1, 256, 128]⟩
abbrev S64x2x4x128 : Shape := ⟨4, ![64, 2, 4, 128]⟩
abbrev S512x128 : Shape := ⟨2, ![512, 128]⟩
abbrev S512x256 : Shape := ⟨2, ![512, 256]⟩
abbrev S1x512x256 : Shape := ⟨3, ![1, 512, 256]⟩
abbrev S128x512 : Shape := ⟨2, ![128, 512]⟩
abbrev S96x2x4x128 : Shape := ⟨4, ![96, 2, 4, 128]⟩
abbrev S768x128 : Shape := ⟨2, ![768, 128]⟩
abbrev S768x256 : Shape := ⟨2, ![768, 256]⟩
abbrev S1x768x256 : Shape := ⟨3, ![1, 768, 256]⟩
abbrev S128x768 : Shape := ⟨2, ![128, 768]⟩

abbrev nBuf : Space → Nat
  | .hbm => 15
  | .vmem => 18
  | .smem => 1
  | _ => 0

abbrev bufTy : (tb : Table) → Fin (tcTables nBuf tb) → BufTy
  | .hbm, ⟨0, _⟩ => ⟨S2x1024x12x128, .i8⟩
  | .hbm, ⟨1, _⟩ => ⟨S2x12, .f32⟩
  | .hbm, ⟨2, _⟩ => ⟨S2x1024x12x128, .i8⟩
  | .hbm, ⟨3, _⟩ => ⟨S2x1024x12, .f32⟩
  | .hbm, ⟨4, _⟩ => ⟨S2x1024x12x128, .i8⟩
  | .hbm, ⟨5, _⟩ => ⟨S2x1024x12, .f32⟩
  | .hbm, ⟨6, _⟩ => ⟨S2x1024x12x128, .fp8e4m3⟩
  | .hbm, ⟨7, _⟩ => ⟨S2x1024x12x128, .fp8e4m3⟩
  | .hbm, ⟨8, _⟩ => ⟨S2x1024x12x128, .fp8e4m3⟩
  | .hbm, ⟨9, _⟩ => ⟨S2x12x1024x128, .fp8e4m3⟩
  | .hbm, ⟨10, _⟩ => ⟨S2x12x1024x128, .fp8e4m3⟩
  | .hbm, ⟨11, _⟩ => ⟨S2x12x1024x128, .fp8e4m3⟩
  | .hbm, ⟨12, _⟩ => ⟨S12x2x1024, .f32⟩
  | .hbm, ⟨13, _⟩ => ⟨S12x2x1024, .f32⟩
  | .hbm, ⟨14, _⟩ => ⟨S2x1024x1536, .bf16⟩
  | .local _ .vmem, ⟨0, _⟩ => ⟨S1x1x1024x128, .fp8e4m3⟩
  | .local _ .vmem, ⟨1, _⟩ => ⟨S1x1x1024x128, .fp8e4m3⟩
  | .local _ .vmem, ⟨2, _⟩ => ⟨S1x1x1024x128, .fp8e4m3⟩
  | .local _ .vmem, ⟨3, _⟩ => ⟨S1x1x1024x128, .fp8e4m3⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S12x2x1024, .f32⟩
  | .local _ .vmem, ⟨7, _⟩ => ⟨S12x2x1024, .f32⟩
  | .local _ .vmem, ⟨8, _⟩ => ⟨S1x1024x128, .bf16⟩
  | .local _ .vmem, ⟨9, _⟩ => ⟨S1x1024x128, .bf16⟩
  | .local _ .vmem, ⟨10, _⟩ => ⟨S128x2x4x128, .fp8e4m3⟩
  | .local _ .vmem, ⟨11, _⟩ => ⟨S128x2x4x128, .fp8e4m3⟩
  | .local _ .vmem, ⟨12, _⟩ => ⟨S128x1024, .bf16⟩
  | .local _ .vmem, ⟨13, _⟩ => ⟨S1024x128, .f32⟩
  | .local _ .vmem, ⟨14, _⟩ => ⟨S1024x128, .f32⟩
  | .local _ .vmem, ⟨15, _⟩ => ⟨S128x128, .f32⟩
  | .local _ .vmem, ⟨16, _⟩ => ⟨S4x1024x256, .f32⟩
  | .local _ .vmem, ⟨17, _⟩ => ⟨S4x1024x256, .bf16⟩
  | .local _ .smem, ⟨0, _⟩ => ⟨S2x12, .f32⟩
  | _, _ => ⟨S2x1024x12x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 12], ![false, false]⟩

def k0_off1 (i : grid0.Coords) : Fin 3 → Nat :=
  let arg1 : BitVec 32 := BitVec.ofNat 32 (i 1).val
  let v524 : Index := Scalar.indexCast arg1
  let arg0 : BitVec 32 := BitVec.ofNat 32 (i 0).val
  let v525 : Index := Scalar.indexCast arg0
  let c0_603 : Index := 0#32
  ![v524.toNat, v525.toNat, 0]
def k0_off2 (i : grid0.Coords) : Fin 2 → Nat :=
  let arg0 : BitVec 32 := BitVec.ofNat 32 (i 0).val
  let v529 : Index := Scalar.indexCast arg0
  let arg1 : BitVec 32 := BitVec.ofNat 32 (i 1).val
  let v530 : Index := Scalar.indexCast arg1
  ![v529.toNat, v530.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S12x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "masked" => some ⊥
  | "score_scale" => some (((Real.sqrt 128)⁻¹ * (Real.log 2)⁻¹ : ℝ) : EReal)
  | _ => none
-- ==== ReferenceIdeal.lean ====
abbrev S2x1024x12x128 : Shape := ⟨4, ![2, 1024, 12, 128]⟩
abbrev S2x12 : Shape := ⟨2, ![2, 12]⟩
abbrev S2x1024x12 : Shape := ⟨3, ![2, 1024, 12]⟩
abbrev S2x12x1024x1024 : Shape := ⟨4, ![2, 12, 1024, 1024]⟩
abbrev S_ : Shape := ⟨0, ![]⟩
abbrev S2x12x1x1 : Shape := ⟨4, ![2, 12, 1, 1]⟩
abbrev S2x12x1024 : Shape := ⟨3, ![2, 12, 1024]⟩
abbrev S2x12x1x1024 : Shape := ⟨4, ![2, 12, 1, 1024]⟩
abbrev S2x12x1024x16x64 : Shape := ⟨5, ![2, 12, 1024, 16, 64]⟩
abbrev S2x12x1024x16x63 : Shape := ⟨5, ![2, 12, 1024, 16, 63]⟩
abbrev S2x12x1024x16 : Shape := ⟨4, ![2, 12, 1024, 16]⟩
abbrev S2x12x1024x16x1 : Shape := ⟨5, ![2, 12, 1024, 16, 1]⟩
abbrev S1024 : Shape := ⟨1, ![1024]⟩
abbrev S1024x1x1 : Shape := ⟨3, ![1024, 1, 1]⟩
abbrev S16 : Shape := ⟨1, ![16]⟩
abbrev S1x16x1 : Shape := ⟨3, ![1, 16, 1]⟩
abbrev S64 : Shape := ⟨1, ![64]⟩
abbrev S1x1x64 : Shape := ⟨3, ![1, 1, 64]⟩
abbrev S1024x16x1 : Shape := ⟨3, ![1024, 16, 1]⟩
abbrev S1x16x64 : Shape := ⟨3, ![1, 16, 64]⟩
abbrev S1024x16x64 : Shape := ⟨3, ![1024, 16, 64]⟩
abbrev S2x12x1024x1x1 : Shape := ⟨5, ![2, 12, 1024, 1, 1]⟩
abbrev S2x12x128x1024 : Shape := ⟨4, ![2, 12, 128, 1024]⟩
abbrev S2x1024x1536 : Shape := ⟨3, ![2, 1024, 1536]⟩

abbrev nBuf : Space → Nat
  | .hbm => 122
  | .vmem => 6
  | .smem => 0
  | _ => 0

abbrev bufTy : (tb : Table) → Fin (tcTables nBuf tb) → BufTy
  | .hbm, ⟨0, _⟩ => ⟨S2x1024x12x128, .i8⟩
  | .hbm, ⟨1, _⟩ => ⟨S2x12, .f32⟩
  | .hbm, ⟨2, _⟩ => ⟨S2x1024x12x128, .i8⟩
  | .hbm, ⟨3, _⟩ => ⟨S2x1024x12, .f32⟩
  | .hbm, ⟨4, _⟩ => ⟨S2x1024x12x128, .i8⟩
  | .hbm, ⟨5, _⟩ => ⟨S2x1024x12, .f32⟩
  | .hbm, ⟨6, _⟩ => ⟨S2x1024x12x128, .fp8e4m3⟩
  | .hbm, ⟨7, _⟩ => ⟨S2x1024x12x128, .fp8e4m3⟩
  | .hbm, ⟨8, _⟩ => ⟨S2x1024x12x128, .fp8e4m3⟩
  | .hbm, ⟨9, _⟩ => ⟨S2x1024x12x128, .f32⟩
  | .hbm, ⟨10, _⟩ => ⟨S2x1024x12x128, .f32⟩
  | .hbm, ⟨11, _⟩ => ⟨S2x1024x12x128, .bf16⟩
  | .hbm, ⟨12, _⟩ => ⟨S2x12x1024x1024, .f32⟩
  | .hbm, ⟨13, _⟩ => ⟨S_, .f32⟩
  | .hbm, ⟨14, _⟩ => ⟨S_, .f32⟩
  | .hbm, ⟨15, _⟩ => ⟨S2x12, .f32⟩
  | .hbm, ⟨16, _⟩ => ⟨S2x12, .f32⟩
  | .hbm, ⟨17, _⟩ => ⟨S2x12x1x1, .f32⟩
  | .hbm, ⟨18, _⟩ => ⟨S2x12x1024x1024, .f32⟩
  | .hbm, ⟨19, _⟩ => ⟨S2x12x1024x1024, .f32⟩
  | .hbm, ⟨20, _⟩ => ⟨S2x12x1024, .f32⟩
  | .hbm, ⟨21, _⟩ => ⟨S2x12x1x1024, .f32⟩
  | .hbm, ⟨22, _⟩ => ⟨S2x12x1024x1024, .f32⟩
  | .hbm, ⟨23, _⟩ => ⟨S2x12x1024x1024, .f32⟩
  | .hbm, ⟨24, _⟩ => ⟨S2x12x1024x16x64, .f32⟩
  | .hbm, ⟨25, _⟩ => ⟨S2x12x1024x16x63, .f32⟩
  | .hbm, ⟨26, _⟩ => ⟨S_, .f32⟩
  | .hbm, ⟨27, _⟩ => ⟨S2x12x1024x16, .f32⟩
  | .hbm, ⟨28, _⟩ => ⟨S2x12x1024x16x1, .f32⟩
  | .hbm, ⟨29, _⟩ => ⟨S2x12x1024x16x63, .f32⟩
  | .hbm, ⟨30, _⟩ => ⟨S2x12x1024x16x63, .f32⟩
  | .hbm, ⟨31, _⟩ => ⟨S2x12x1024x16x63, .f32⟩
  | .hbm, ⟨32, _⟩ => ⟨S_, .f32⟩
  | .hbm, ⟨33, _⟩ => ⟨S2x12x1024x16, .f32⟩
  | .hbm, ⟨34, _⟩ => ⟨S2x12x1024x16x1, .f32⟩
  | .hbm, ⟨35, _⟩ => ⟨S2x12x1024x16x1, .f32⟩
  | .hbm, ⟨36, _⟩ => ⟨S2x12x1024x16x1, .f32⟩
  | .hbm, ⟨37, _⟩ => ⟨S2x12x1024x16x1, .f32⟩
  | .hbm, ⟨38, _⟩ => ⟨S1024, .i32⟩
  | .hbm, ⟨39, _⟩ => ⟨S1024x1x1, .i32⟩
  | .hbm, ⟨40, _⟩ => ⟨S16, .i32⟩
  | .hbm, ⟨41, _⟩ => ⟨S1x16x1, .i32⟩
  | .hbm, ⟨42, _⟩ => ⟨S_, .i32⟩
  | .hbm, ⟨43, _⟩ => ⟨S1x16x1, .i32⟩
  | .hbm, ⟨44, _⟩ => ⟨S1x16x1, .i32⟩
  | .hbm, ⟨45, _⟩ => ⟨S64, .i32⟩
  | .hbm, ⟨46, _⟩ => ⟨S1x1x64, .i32⟩
  | .hbm, ⟨47, _⟩ => ⟨S_, .i32⟩
  | .hbm, ⟨48, _⟩ => ⟨S1x1x64, .i32⟩
  | .hbm, ⟨49, _⟩ => ⟨S1x1x64, .i1⟩
  | .hbm, ⟨50, _⟩ => ⟨S_, .i32⟩
  | .hbm, ⟨51, _⟩ => ⟨S1x16x1, .i32⟩
  | .hbm, ⟨52, _⟩ => ⟨S1x16x1, .i32⟩
  | .hbm, ⟨53, _⟩ => ⟨S1024x16x1, .i32⟩
  | .hbm, ⟨54, _⟩ => ⟨S1024x16x1, .i32⟩
  | .hbm, ⟨55, _⟩ => ⟨S1024x16x1, .i1⟩
  | .hbm, ⟨56, _⟩ => ⟨S1x16x64, .i32⟩
  | .hbm, ⟨57, _⟩ => ⟨S1x16x64, .i32⟩
  | .hbm, ⟨58, _⟩ => ⟨S1x16x64, .i32⟩
  | .hbm, ⟨59, _⟩ => ⟨S1024x16x64, .i32⟩
  | .hbm, ⟨60, _⟩ => ⟨S1024x16x64, .i32⟩
  | .hbm, ⟨61, _⟩ => ⟨S1024x16x64, .i1⟩
  | .hbm, ⟨62, _⟩ => ⟨S_, .i32⟩
  | .hbm, ⟨63, _⟩ => ⟨S1x16x1, .i32⟩
  | .hbm, ⟨64, _⟩ => ⟨S1x16x1, .i32⟩
  | .hbm, ⟨65, _⟩ => ⟨S1024x16x1, .i32⟩
  | .hbm, ⟨66, _⟩ => ⟨S1024x16x1, .i32⟩
  | .hbm, ⟨67, _⟩ => ⟨S1024x16x1, .i1⟩
  | .hbm, ⟨68, _⟩ => ⟨S1024x16x64, .i1⟩
  | .hbm, ⟨69, _⟩ => ⟨S1024x16x64, .i1⟩
  | .hbm, ⟨70, _⟩ => ⟨S1024x16x64, .i1⟩
  | .hbm, ⟨71, _⟩ => ⟨S1024x16x64, .i1⟩
  | .hbm, ⟨72, _⟩ => ⟨S1024x16x64, .i1⟩
  | .hbm, ⟨73, _⟩ => ⟨S1024x16x64, .i1⟩
  | .hbm, ⟨74, _⟩ => ⟨S1024x16x64, .i1⟩
  | .hbm, ⟨75, _⟩ => ⟨S1x1x64, .i1⟩
  | .hbm, ⟨76, _⟩ => ⟨S1024x16x64, .i1⟩
  | .hbm, ⟨77, _⟩ => ⟨S1024x16x64, .i1⟩
  | .hbm, ⟨78, _⟩ => ⟨S1024x16x64, .i1⟩
  | .hbm, ⟨79, _⟩ => ⟨S1024x16x64, .i1⟩
  | .hbm, ⟨80, _⟩ => ⟨S_, .f32⟩
  | .hbm, ⟨81, _⟩ => ⟨S_, .f32⟩
  | .hbm, ⟨82, _⟩ => ⟨S2x12x1024x16x64, .i1⟩
  | .hbm, ⟨83, _⟩ => ⟨S2x12x1024x16x64, .f32⟩
  | .hbm, ⟨84, _⟩ => ⟨S2x12x1024x16x64, .f32⟩
  | .hbm, ⟨85, _⟩ => ⟨S_, .f32⟩
  | .hbm, ⟨86, _⟩ => ⟨S2x12x1024, .f32⟩
  | .hbm, ⟨87, _⟩ => ⟨S2x12x1024x1x1, .f32⟩
  | .hbm, ⟨88, _⟩ => ⟨S2x12x1024x16x64, .f32⟩
  | .hbm, ⟨89, _⟩ => ⟨S2x12x1024x16x64, .f32⟩
  | .hbm, ⟨90, _⟩ => ⟨S2x12x1024x16x64, .f32⟩
  | .hbm, ⟨91, _⟩ => ⟨S_, .f32⟩
  | .hbm, ⟨92, _⟩ => ⟨S2x12x1024, .f32⟩
  | .hbm, ⟨93, _⟩ => ⟨S2x12x1024x1x1, .f32⟩
  | .hbm, ⟨94, _⟩ => ⟨S2x12x1024x1x1, .f32⟩
  | .hbm, ⟨95, _⟩ => ⟨S2x12x1024x1x1, .f32⟩
  | .hbm, ⟨96, _⟩ => ⟨S2x12x1024x16x64, .f32⟩
  | .hbm, ⟨97, _⟩ => ⟨S2x12x1024x16x64, .f32⟩
  | .hbm, ⟨98, _⟩ => ⟨S2x12x1024x16x1, .f32⟩
  | .hbm, ⟨99, _⟩ => ⟨S2x12x1024x16x1, .f32⟩
  | .hbm, ⟨100, _⟩ => ⟨S2x12x1024x16x64, .f32⟩
  | .hbm, ⟨101, _⟩ => ⟨S2x12x1024x16x64, .f32⟩
  | .hbm, ⟨102, _⟩ => ⟨S2x12x1024x16x64, .f32⟩
  | .hbm, ⟨103, _⟩ => ⟨S2x12x1024x16x64, .f32⟩
  | .hbm, ⟨104, _⟩ => ⟨S_, .f32⟩
  | .hbm, ⟨105, _⟩ => ⟨S_, .f32⟩
  | .hbm, ⟨106, _⟩ => ⟨S2x12x1024x16x64, .i1⟩
  | .hbm, ⟨107, _⟩ => ⟨S2x12x1024x16x64, .f32⟩
  | .hbm, ⟨108, _⟩ => ⟨S2x12x1024x16x64, .f32⟩
  | .hbm, ⟨109, _⟩ => ⟨S2x12x1024x16x64, .i1⟩
  | .hbm, ⟨110, _⟩ => ⟨S2x12x1024x16x64, .f32⟩
  | .hbm, ⟨111, _⟩ => ⟨S2x12x1024x16x64, .f32⟩
  | .hbm, ⟨112, _⟩ => ⟨S2x12x1024x1024, .f32⟩
  | .hbm, ⟨113, _⟩ => ⟨S2x12x1024, .f32⟩
  | .hbm, ⟨114, _⟩ => ⟨S2x12x1x1024, .f32⟩
  | .hbm, ⟨115, _⟩ => ⟨S2x12x1024x1024, .f32⟩
  | .hbm, ⟨116, _⟩ => ⟨S2x12x1024x1024, .f32⟩
  | .hbm, ⟨117, _⟩ => ⟨S2x12x1024x1024, .bf16⟩
  | .hbm, ⟨118, _⟩ => ⟨S2x12x128x1024, .f32⟩
  | .hbm, ⟨119, _⟩ => ⟨S2x1024x12x128, .f32⟩
  | .hbm, ⟨120, _⟩ => ⟨S2x1024x12x128, .bf16⟩
  | .hbm, ⟨121, _⟩ => ⟨S2x1024x1536, .bf16⟩
  | .local _ .vmem, ⟨0, _⟩ => ⟨S2x1024x12x128, .fp8e4m3⟩
  | .local _ .vmem, ⟨1, _⟩ => ⟨S2x1024x12x128, .fp8e4m3⟩
  | .local _ .vmem, ⟨2, _⟩ => ⟨S2x1024x12x128, .fp8e4m3⟩
  | .local _ .vmem, ⟨3, _⟩ => ⟨S2x1024x12x128, .f32⟩
  | .local _ .vmem, ⟨4, _⟩ => ⟨S2x1024x12x128, .f32⟩
  | .local _ .vmem, ⟨5, _⟩ => ⟨S2x1024x12x128, .bf16⟩
  | _, _ => ⟨S2x1024x12x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_2 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v65 : Ref sig .tc := ⟨.hbm, 84, rfl⟩
abbrev main_cst_6 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_8 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v83 : Ref sig .tc := ⟨.hbm, 108, rfl⟩
abbrev main_call2_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x12x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x12x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x12x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x12x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Struct.lean ====
module

public import proofs.«01_k».proof.KernelIdeal
public import Idealize.ShloMosaic.Lib.Tactic
public import Idealize.ShloMosaic.Lib.VecWindow

@[expose] public section

set_option maxRecDepth 16384
set_option synthInstance.maxSize 4096

noncomputable section

namespace Cert.KernelIdeal.Struct

open Idealize.ShloMosaic Idealize.SL.Sem
open Idealize.ShloMosaic.RefSig (ofTc tcTables tileCredit tileCredit_eq_zero tileCredit_pos)

variable {F : FTy → Type} [FloatOps F] [Named F]
variable [Facts]
open Facts Facts₀ K0.Facts₀ Shapes1.Facts₀ Shapes2.Facts₀

/-- The buffers in vector memory the kernel works on: the staged blocks of queries, codes (keys `false`, values `true`),
    scales and results, and the scratch buffers. -/
inductive Slot where
  | q | code (c : Bool) | scale (c : Bool) | o | pk (c : Bool) | vt | sp (c : Bool) | bias | s | w
  deriving DecidableEq

/-- Each buffer's shape. -/
abbrev sh : Slot → Shape
  | .q => S1x1x1024x128 | .code _ => S1x1x1024x128 | .scale _ => S12x2x1024 | .o => S1x1024x128
  | .pk _ => S128x2x4x128 | .vt => S128x1024 | .sp _ => S1024x128 | .bias => S128x128
  | .s => S4x1024x256 | .w => S4x1024x256

/-- Each buffer's element type. -/
abbrev el : Slot → EltTy
  | .q => .fp8e4m3 | .code _ => .fp8e4m3 | .scale _ => .f32 | .o => .bf16
  | .pk _ => .fp8e4m3 | .vt => .bf16 | .sp _ => .f32 | .bias => .f32
  | .s => .f32 | .w => .bf16

/-- The kernel's memrefs in vector memory. -/
abbrev Mems := (a : Slot) → Memref sig .tc .vmem (sh a) (el a)

variable (M : Mems) (m2 : Memref sig .tc .smem S2x12 .f32)

/-- A straight-line program over the buffers: loads of boxes, loads of boxes of one squeezed part, stores of boxes and the
    one scalar load. -/
inductive Cmd (F : FTy → Type) (M : Mems) : Type where
  | done : Cmd F M
  | ld (a : Slot) (off sz : Fin (sh a).rank → Nat) (inb : ∀ x, off x + sz x ≤ (sh a).size x)
      (h : 0 < (Rect.unit off sz inb).shape.numel)
      (k : ((⟨(sh a).rank, sz⟩ : Shape).Idx → Elt F (el a)) → Cmd F M) : Cmd F M
  | ldq (a : Slot) (off₀ sz₀ : Fin (sh a).rank → Nat) (inb₀ : ∀ x, off₀ x + sz₀ x ≤ (sh a).size x) (s' : Shape)
      (hq : (Rect.unit off₀ sz₀ inb₀).shape.Squeezes s') (off sz : Fin s'.rank → Nat) (inb : ∀ x, off x + sz x ≤ s'.size x)
      (h : 0 < (Rect.unit off sz inb).shape.numel)
      (k : ((⟨s'.rank, sz⟩ : Shape).Idx → Elt F (el a)) → Cmd F M) : Cmd F M
  | st (a : Slot) (off sz : Fin (sh a).rank → Nat) (inb : ∀ x, off x + sz x ≤ (sh a).size x)
      (x : (⟨(sh a).rank, sz⟩ : Shape).Idx → Elt F (el a))
      (h : ((M a).access (Rect.unit off sz inb)).Stores Finset.univ) (k : Cmd F M) : Cmd F M
  | sm (off : Fin 2 → Nat) (inb : ∀ x, off x + S1x1.size x ≤ S2x12.size x) (k : Elt F .f32 → Cmd F M) : Cmd F M

/-- The program in the machine's terms. -/
def Cmd.prog : Cmd F M → Prog (TpuEff nD τ sig (Elt F) Λ₀ .tc) PUnit
  | .done => .ret ⟨⟩
  | .ld a off sz inb h k => .op (.load (M a) (Rect.unit off sz inb).toLoadRect (View.loadsAt_vmem h)) fun x => Cmd.prog (k x)
  | .ldq a off₀ sz₀ inb₀ s' hq off sz inb h k =>
      .op (.load (((M a).slice (Rect.unit off₀ sz₀ inb₀) (fun _ => rfl)).squeeze s' hq) (Rect.unit off sz inb).toLoadRect
        (View.loadsAt_vmem h)) fun x => Cmd.prog (k x)
  | .st a off sz inb x h k => .op (.store (M a) (Rect.unit off sz inb) x Finset.univ h (.inl rfl)) fun _ => Cmd.prog k
  | .sm off inb k => smemLoadElt m2 (Rect.unit (s := S2x12) off S1x1.size inb)
      (View.loads_smem_one rfl numel1_S1x1) (Shape.Idx.first (numel1_S1x1.symm ▸ Nat.one_pos)) fun x => Cmd.prog (k x)

/-- The contents of the buffers. -/
abbrev St (F : FTy → Type) := (a : Slot) → (sh a).Idx → Elt F (el a)

/-- The state with one buffer's contents replaced. -/
def St.set (X : St F) (a : Slot) (x : (sh a).Idx → Elt F (el a)) : St F :=
  fun b => if h : b = a then h ▸ x else X b

/-- What the program leaves in the buffers. -/
def Cmd.run (sc : S2x12.Idx → Elt F .f32) : Cmd F M → St F → St F
  | .done, X => X
  | .ld a off sz inb h k, X => Cmd.run sc (k (VecWindow.window (X a) off sz inb)) X
  | .ldq a off₀ sz₀ inb₀ s' hq off sz inb h k, X =>
      Cmd.run sc (k (fun y => X a ((Rect.unit off₀ sz₀ inb₀).emb (Shape.reshapeEquiv hq.numel_eq ((Rect.unit off sz inb).emb y))))) X
  | .st a off sz inb x h k, X => Cmd.run sc k (X.set a (VecWindow.put (X a) off sz x))
  | .sm off inb k, X => Cmd.run sc (k (sc ((Rect.unit (s := S2x12) off S1x1.size inb).emb (Shape.Idx.first (numel1_S1x1.symm ▸ Nat.one_pos))))) X

/-! ## Counting combinators -/

/-- The body at `n - 1`, …, `0` put in front of `k`, first index first: `n` counts the indices still to come, from the
    end `N`. -/
def forN (N : Nat) (f : (j : Nat) → j < N → Cmd F M → Cmd F M) : (n : Nat) → n ≤ N → Cmd F M → Cmd F M
  | 0, _, k => k
  | n + 1, h, k => forN N f n (Nat.le_of_succ_le h) (f n h k)

/-- Values read one after another, for the indices below `n`. -/
def ldN {α : Type} (d : α) (N : Nat) (body : (j : Nat) → j < N → (α → Cmd F M) → Cmd F M) :
    (n : Nat) → n ≤ N → ((Nat → α) → Cmd F M) → Cmd F M
  | 0, _, k => k fun _ => d
  | n + 1, h, k => ldN d N body n (Nat.le_of_succ_le h) fun x => body n h fun y => k fun v => if v = n then y else x v

/-- Sixteen values combined pairwise, in a balanced tree. -/
def fold16 {α : Type} (op : α → α → α) (x : Nat → α) : α :=
  op (op (op (op (x 0) (x 1)) (op (x 2) (x 3))) (op (op (x 4) (x 5)) (op (x 6) (x 7))))
    (op (op (op (x 8) (x 9)) (op (x 10) (x 11))) (op (op (x 12) (x 13)) (op (x 14) (x 15))))

/-- The values `x 0`, …, `x t` combined pairwise, an odd last one carried along. -/
def foldTo {α : Type} (op : α → α → α) (x : Nat → α) : Nat → α
  | 0 => x 0
  | 1 => op (x 0) (x 1)
  | 2 => op (op (x 0) (x 1)) (x 2)
  | 3 => op (op (x 0) (x 1)) (op (x 2) (x 3))
  | 4 => op (op (op (x 0) (x 1)) (op (x 2) (x 3))) (x 4)
  | 5 => op (op (op (x 0) (x 1)) (op (x 2) (x 3))) (op (x 4) (x 5))
  | 6 => op (op (op (x 0) (x 1)) (op (x 2) (x 3))) (op (op (x 4) (x 5)) (x 6))
  | _ => op (op (op (x 0) (x 1)) (op (x 2) (x 3))) (op (op (x 4) (x 5)) (op (x 6) (x 7)))

/-! ## The vector values -/

abbrev V8 (F : FTy → Type) := FVec F S8x128 .f32

/-- The floor remainder of every entry by `n`. -/
def modv {s : Shape} (hb : s.Broadcasts s) (n : BitVec 32) (x : IVec s 32) : IVec s 32 :=
  let d : BitVec 32 := Scalar.select (Scalar.cmpi .eq n 0#32) 1#32 n
  let r : IVec s 32 := remsi x (broadcast s d)
  select (andi (xori (cmpi .slt r (broadcast s 0#32)) (broadcastTo s (broadcast s (Scalar.cmpi .slt d 0#32)) hb))
    (cmpi .ne r (broadcast s 0#32))) (addi r (broadcast s d)) r

/-- The sublane of every entry. -/
def sub : IVec S8x128 32 := iota .tc S8x128 32 [0] iota_S8x128_d0_w32
/-- The lane of every entry. -/
def lane : IVec S8x128 32 := iota .tc S8x128 32 [1] iota_S8x128_d1_w32
/-- Whether the sublane is in the second half. -/
def second : IVec S8x128 1 := cmpi .sge sub (broadcast S8x128 4#32)
/-- Whether the sublane is the last of its half. -/
def lmRow : IVec S8x128 1 := cmpi .eq (modv broadcasts_S8x128_S8x128 4#32 sub) (broadcast S8x128 3#32)
/-- Whether the half is the one of the lane's own block. -/
def isOwn : IVec S8x128 1 := xori (xori second (cmpi .sge lane (broadcast S8x128 64#32))) (constantI S8x128 1 1#1)
/-- Whether the half is a block after the lane's own. -/
def isDead : IVec S8x128 1 := andi second (cmpi .slt lane (broadcast S8x128 64#32))

/-- The four sublanes of each half combined. -/
def group4 (op : V8 F → V8 F → V8 F) (x : V8 F) : V8 F :=
  let y := op x (select (cmpi .eq (modv broadcasts_S8x128_S8x128 2#32 sub) (broadcast S8x128 0#32))
    (dynamicRotate 0 7#32 none x rotates_S8x128_d0) (dynamicRotate 0 1#32 none x rotates_S8x128_d0))
  op y (select (cmpi .slt (modv broadcasts_S8x128_S8x128 4#32 sub) (broadcast S8x128 2#32))
    (dynamicRotate 0 6#32 none y rotates_S8x128_d0) (dynamicRotate 0 2#32 none y rotates_S8x128_d0))

def masked : V8 F := broadcast S8x128 (Named.named κ "masked" 0xF149F2CA#32)
def one8 : V8 F := broadcast S8x128 (Scalar.ofBits .f32 0x3F800000#32)
/-- The landmark's score of each half, from the last eight rows. -/
def landmark (x : V8 F) : V8 F := group4 maximumf (select lmRow x (broadcast S8x128 (Scalar.ofBits .f32 0xFF800000#32)))
/-- The largest entry of each half. -/
def mxOf (x : Nat → V8 F) : V8 F := group4 maximumf (fold16 maximumf x)
/-- The exponentials against the largest. -/
def eOf (x : Nat → V8 F) (v : Nat) : V8 F := exp2 (subf (x v) (mxOf x))
/-- Their sum in each half. -/
def totOf (x : Nat → V8 F) : V8 F := group4 addf (fold16 addf (eOf x))
/-- The two halves combined. -/
def roll4 (op : V8 F → V8 F → V8 F) (x : V8 F) : V8 F := op x (dynamicRotate 0 4#32 none x rotates_S8x128_d0)

/-- The outer scores: the landmarks of the earlier pairs, and the last pair's own value. -/
def aOf (t : Nat) (x lmP : Nat → V8 F) (xb : Nat → V8 F) (p : Nat) : V8 F :=
  if p = t then select isOwn (mxOf xb) (select isDead masked (landmark (x 15))) else landmark (lmP p)
def mxA (t : Nat) (x lmP xb : Nat → V8 F) : V8 F := roll4 maximumf (foldTo maximumf (aOf t x lmP xb) t)
def gOf (t : Nat) (x lmP xb : Nat → V8 F) (p : Nat) : V8 F := exp2 (subf (aOf t x lmP xb p) (mxA t x lmP xb))
def zOf (t : Nat) (x lmP xb : Nat → V8 F) : V8 F :=
  roll4 addf (foldTo addf (fun p => if p = t then mulf (gOf t x lmP xb p) (select isOwn (totOf xb) one8) else gOf t x lmP xb p) t)
/-- The last pair's factor. -/
def fOwn (t : Nat) (x lmP xb : Nat → V8 F) : V8 F :=
  divf (gOf t x lmP xb t) (mulf (zOf t x lmP xb) (select isOwn one8 (totOf xb)))
/-- A pair's rows with the landmark's masked. -/
def xPast (x : Nat → V8 F) (v : Nat) : V8 F := if v = 15 then select lmRow masked (x 15) else x v
/-- An earlier pair's factor. -/
def fPast (t : Nat) (x lmP xb : Nat → V8 F) (p : Nat) (y : Nat → V8 F) : V8 F :=
  divf (gOf t x lmP xb p) (mulf (zOf t x lmP xb) (totOf (xPast y)))

/-! ## The program -/

theorem inb2 {a b c d A B : Nat} (h : a + c ≤ A) (h' : b + d ≤ B) : ∀ x : Fin 2, (![a, b] : Fin 2 → Nat) x + (![c, d] : Fin 2 → Nat) x ≤ (![A, B] : Fin 2 → Nat) x
  | 0 => h | 1 => h'
theorem inb3 {a b c d e f A B C : Nat} (h : a + d ≤ A) (h' : b + e ≤ B) (h'' : c + f ≤ C) :
    ∀ x : Fin 3, (![a, b, c] : Fin 3 → Nat) x + (![d, e, f] : Fin 3 → Nat) x ≤ (![A, B, C] : Fin 3 → Nat) x
  | 0 => h | 1 => h' | 2 => h''
theorem inb4 {a b c d e f g i A B C D : Nat} (h : a + e ≤ A) (h' : b + f ≤ B) (h'' : c + g ≤ C) (h3 : d + i ≤ D) :
    ∀ x : Fin 4, (![a, b, c, d] : Fin 4 → Nat) x + (![e, f, g, i] : Fin 4 → Nat) x ≤ (![A, B, C, D] : Fin 4 → Nat) x
  | 0 => h | 1 => h' | 2 => h'' | 3 => h3
theorem pos2 {a b : Nat} (h : 0 < a) (h' : 0 < b) : 0 < (⟨2, ![a, b]⟩ : Shape).numel := Shape.numel_pos fun | 0 => h | 1 => h'
theorem pos3 {a b c : Nat} (h : 0 < a) (h' : 0 < b) (h'' : 0 < c) : 0 < (⟨3, ![a, b, c]⟩ : Shape).numel :=
  Shape.numel_pos fun | 0 => h | 1 => h' | 2 => h''
theorem pos4 {a b c d : Nat} (h : 0 < a) (h' : 0 < b) (h'' : 0 < c) (h3 : 0 < d) : 0 < (⟨4, ![a, b, c, d]⟩ : Shape).numel :=
  Shape.numel_pos fun | 0 => h | 1 => h' | 2 => h'' | 3 => h3
theorem num2 (a b : Nat) : (⟨2, ![a, b]⟩ : Shape).numel = a * b := by simp [Shape.numel, Fin.prod_univ_succ]
theorem num3 (a b c : Nat) : (⟨3, ![a, b, c]⟩ : Shape).numel = a * (b * c) := by simp [Shape.numel, Fin.prod_univ_succ]
theorem num4 (a b c d : Nat) : (⟨4, ![a, b, c, d]⟩ : Shape).numel = a * (b * (c * d)) := by simp [Shape.numel, Fin.prod_univ_succ]

theorem packed3 {a b c d e f A B C p : Nat} (h : p ∣ b) (h' : p ∣ e)
    (inb : ∀ x : Fin 3, (![a, b, c] : Fin 3 → Nat) x + (![d, e, f] : Fin 3 → Nat) x ≤ (![A, B, C] : Fin 3 → Nat) x) : (Rect.unit (s := ⟨3, ![A, B, C]⟩) ![a, b, c] ![d, e, f] inb).PackedRows p :=
  .inr ⟨(show 2 ≤ 3 by omega), rfl, .inl ⟨by change p ∣ (![a, b, c] : Fin 3 → Nat) 1; exact h, by change p ∣ (![d, e, f] : Fin 3 → Nat) 1; exact h'⟩⟩

/-- The memrefs, each a whole buffer. -/
structure Args where
  mem : Mems
  whole : ∀ a, (mem a).IsWhole
  scalar : Memref sig .tc .smem S2x12 .f32

variable (A : Args)
abbrev C (F : FTy → Type) (A : Args) := Cmd F A.mem

/-- The sixteen rows of codes from `128 p + 64 b + 32 g`, put in the packed buffer. -/
def ilv (c : Bool) (k : C F A) : C F A :=
  forN A.mem 8 (fun p hp => forN A.mem 2 (fun b hb => forN A.mem 2 (fun g hg k =>
    .ldq (.code c) ![0, 0, 0, 0] S1x1x1024x128.size (inb4 (by omega) (by omega) (by omega) (by omega)) S1024x128 squeezes_S1x1x1024x128_S1024x128
      ![128 * p + 64 * b + 32 * g, 0] S32x128.size (inb2 (by omega) (by omega)) (pos2 (by omega) (by omega)) fun x =>
    .ld (.pk c) ![16 * p + 8 * g, b, 0, 0] S8x1x4x128.size (inb4 (by omega) (by omega) (by omega) (by omega)) (pos4 (by omega) (by omega) (by omega) (by omega)) fun _ =>
    .st (.pk c) ![16 * p + 8 * g, b, 0, 0] S8x1x4x128.size (inb4 (by omega) (by omega) (by omega) (by omega))
      (shapeCast S8x1x4x128 (shapeCast S8x4x128 (shapeCast S32x128 x shapeCasts_S32x128_S32x128) shapeCasts_S32x128_S8x4x128) shapeCasts_S8x4x128_S8x1x4x128)
      (View.stores_vmem (pos4 (by omega) (by omega) (by omega) (by omega)) ((A.whole (.pk c)).storeExact_slice rfl _ (.inr ⟨(show 2 ≤ 4 by omega), rfl,
        .inr ⟨rfl, rfl, rfl, rfl, rfl⟩⟩)) (fun _ => rfl)) k) 2 le_rfl) 2 le_rfl) 8 le_rfl k

/-- The values' codes widened and transposed. -/
def vtC (k : C F A) : C F A :=
  .ld (.pk true) ![0, 0, 0, 0] S128x2x4x128.size (inb4 (by omega) (by omega) (by omega) (by omega)) (pos4 (by omega) (by omega) (by omega) (by omega)) fun x =>
  .ld .vt ![0, 0] S128x1024.size (inb2 (by omega) (by omega)) (pos2 (by omega) (by omega)) fun _ =>
  .st .vt ![0, 0] S128x1024.size (inb2 (by omega) (by omega))
    (shapeCast S128x1024 (transpose S128x1024 [1, 0] (extf .bf16 (shapeCast S1024x128 x shapeCasts_S128x2x4x128_S1024x128) bitsLt_fp8e4m3_bf16)
      transposes_S1024x128_p1_0_S128x1024) shapeCasts_S128x1024_S128x1024)
    (View.stores_vmem (pos2 (by omega) (by omega)) ((A.whole .vt).storeExact_slice rfl _ (.inl fun | 0 => ⟨rfl, rfl, rfl⟩ | 1 => ⟨rfl, rfl, rfl⟩)) (fun _ => rfl)) k

/-- Where in its row each packed key's scale stands. -/
def gidx : IVec S8x128 32 :=
  let x : IVec S8x128 32 := addi (addi (muli (broadcast S8x128 64#32) (andi (shrsi lane (broadcast S8x128 2#32)) (broadcast S8x128 1#32)))
    (muli (broadcast S8x128 4#32) (shrsi lane (broadcast S8x128 3#32)))) (andi lane (broadcast S8x128 3#32))
  shapeCast S8x128 (shapeCast S8x128x1 (select (cmpi .slt x (broadcast S8x128 0#32)) (addi x (broadcast S8x128 128#32)) x)
    shapeCasts_S8x128_S8x128x1) shapeCasts_S8x128x1_S8x128

theorem slc {p : Nat} (hp : p < 8) : S8x128.Slices ![p, 0] S1x128 :=
  ⟨rfl, fun | 0 => (show p + 1 ≤ 8 by omega) | 1 => (show 0 + 128 ≤ 128 by omega)⟩

/-- Every scale spread along the lanes, in the packed keys' order. -/
def spread (c : Bool) (row : V8 F) (k : C F A) : C F A :=
  let g : V8 F := dynamicGather 1 row gidx
  forN A.mem 8 (fun p hp k =>
    .ld (.sp c) ![128 * p, 0] S128x128.size (inb2 (by omega) (by omega)) (pos2 (by omega) (by omega)) fun _ =>
    .st (.sp c) ![128 * p, 0] S128x128.size (inb2 (by omega) (by omega))
      (shapeCast S128x128 (transpose S128x128 [1, 0] (broadcastTo S128x128 (shapeCast S1x128 (extractStridedSlice S1x128 ![p, 0] g (slc hp))
        shapeCasts_S1x128_S1x128) broadcasts_S1x128_S128x128) transposes_S128x128_p1_0_S128x128) shapeCasts_S128x128_S128x128)
      (View.stores_vmem_bits_univ (pos2 (by omega) (by omega)) rfl) k) 8 le_rfl k

/-- The staged row of scales, by blocks of 128. -/
def row8 (x : FVec F S1x1x1024 .f32) : V8 F := shapeCast S8x128 (shapeCast S1x1024 x shapeCasts_S1x1x1024_S1x1024) shapeCasts_S1x1024_S8x128

/-- Both rows of scales spread, the keys' times the query scale and the score scale. -/
def scales (i : grid0.Coords) (k : C F A) : C F A :=
  .ld (.scale false) (k0_off1 i) S1x1x1024.size (k0_off1_inb i) (pos3 (by omega) (by omega) (by omega)) fun x =>
  .sm (k0_off2 i) (k0_off2_inb i) fun sc =>
  spread A false (mulf (row8 x) (broadcast S8x128 (Scalar.mulf sc (Named.named κ "score_scale" 0x3E0293EE#32)))) <|
  .ld (.scale true) (k0_off1 i) S1x1x1024.size (k0_off1_inb i) (pos3 (by omega) (by omega) (by omega)) fun y =>
  spread A true (row8 y) k

/-- The scores of eight packed keys against a tile's queries. -/
def ldx (T c : Nat) (hT : T < 4) (hc : c < 2) (p : Nat) (hp : p < 8) (v : Nat) (hv : v < 16) (k : V8 F → C F A) : C F A :=
  .ldq .s ![T, 0, 0] S1x1024x256.size (inb3 (by omega) (by omega) (by omega)) S1024x256 squeezes_S1x1024x256_S1024x256
    ![128 * p + 8 * v, 128 * c] S8x128.size (inb2 (by omega) (by omega)) (pos2 (by omega) (by omega)) fun x =>
  .ld (.sp false) ![128 * p + 8 * v, 0] S8x128.size (inb2 (by omega) (by omega)) (pos2 (by omega) (by omega)) fun y =>
  k (mulf x y)

/-- One pair's weights, put in the weights' buffer. -/
def storeW (T c : Nat) (hT : T < 4) (hc : c < 2) (p : Nat) (hp : p < 8) (e : Nat → V8 F) (f : V8 F) (k : C F A) : C F A :=
  forN A.mem 8 (fun u hu k =>
    .ld (.sp true) ![128 * p + 16 * u, 0] S8x128.size (inb2 (by omega) (by omega)) (pos2 (by omega) (by omega)) fun x =>
    .ld (.sp true) ![128 * p + 16 * u + 8, 0] S8x128.size (inb2 (by omega) (by omega)) (pos2 (by omega) (by omega)) fun y =>
    .ldq .w ![T, 0, 0] S1x1024x256.size (inb3 (by omega) (by omega) (by omega)) S1024x256 squeezes_S1x1024x256_S1024x256
      ![128 * p + 16 * u, 128 * c] S16x128.size (inb2 (by omega) (by omega)) (pos2 (by omega) (by omega)) fun _ =>
    .st .w ![T, 128 * p + 16 * u, 128 * c] S1x16x128.size (inb3 (by omega) (by omega) (by omega))
      (shapeCast S1x16x128 (shapeCast S16x128 (truncf .bf16 (concatenate S16x128 0 [⟨S8x128, mulf (mulf (e (2 * u)) f) x⟩,
        ⟨S8x128, mulf (mulf (e (2 * u + 1)) f) y⟩] concatenates_S8x128_S8x128_S16x128_d0) bitsLt_bf16_f32) shapeCasts_S16x128_S16x128)
        shapeCasts_S16x128_S1x16x128)
      (View.stores_vmem (pos3 (by omega) (by omega) (by omega)) ((A.whole .w).storeExact_slice rfl _ (packed3 (p := 2) (by omega) (by omega) _)) (fun _ => rfl)) k) 8 le_rfl k

/-- One tile of 128 queries. -/
def tile (T c : Nat) (hT : T < 4) (hc : c < 2) (k : C F A) : C F A :=
  ldN A.mem masked 16 (ldx A T c hT hc (2 * T + c) (by omega)) 16 le_rfl fun x =>
  ldN A.mem masked 16 (fun v hv k => .ld .bias ![8 * v, 0] S8x128.size (inb2 (by omega) (by omega)) (pos2 (by omega) (by omega)) fun y => k (addf (x v) y)) 16 le_rfl fun xb =>
  ldN A.mem masked (2 * T + c) (fun p hp k => ldx A T c hT hc p (by omega) 15 (by omega) k) (2 * T + c) le_rfl fun lmP =>
  storeW A T c hT hc (2 * T + c) (by omega) (eOf xb) (fOwn (2 * T + c) x lmP xb) <|
  forN A.mem (2 * T + c) (fun p hp k =>
    ldN A.mem masked 16 (ldx A T c hT hc p (by omega)) 16 le_rfl fun y =>
    storeW A T c hT hc p (by omega) (eOf (xPast y)) (fPast (2 * T + c) x lmP xb p y) k) (2 * T + c) le_rfl k

/-- The contraction of the packed keys with a block of queries. -/
def dotS (T : Nat) (hT : T < 4) : DotDims ⟨2, ![256 * (T + 1), 128]⟩ S256x128 ⟨2, ![256 * (T + 1), 256]⟩ where
  lhsContracting := [1]
  rhsContracting := [1]
  lhsNonContracting := [0]
  rhsNonContracting := [0]
  lhsBatch := []
  rhsBatch := []
  wf := match T, hT with
    | 0, _ => dot_S256x128_S256x128_S256x256_1_1_0_0_n_n_wf
    | 1, _ => dot_S512x128_S256x128_S512x256_1_1_0_0_n_n_wf
    | 2, _ => dot_S768x128_S256x128_S768x256_1_1_0_0_n_n_wf
    | 3, _ => dot_S1024x128_S256x128_S1024x256_1_1_0_0_n_n_wf
    | n + 4, h => absurd h (by omega)

/-- The contraction of the transposed values with the weights. -/
def dotO (T : Nat) (hT : T < 4) : DotDims ⟨2, ![128, 256 * (T + 1)]⟩ ⟨2, ![256 * (T + 1), 256]⟩ S128x256 where
  lhsContracting := [1]
  rhsContracting := [0]
  lhsNonContracting := [0]
  rhsNonContracting := [1]
  lhsBatch := []
  rhsBatch := []
  wf := match T, hT with
    | 0, _ => dot_S128x256_S256x256_S128x256_1_0_0_1_n_n_wf
    | 1, _ => dot_S128x512_S512x256_S128x256_1_0_0_1_n_n_wf
    | 2, _ => dot_S128x768_S768x256_S128x256_1_0_0_1_n_n_wf
    | 3, _ => dot_S128x1024_S1024x256_S128x256_1_0_0_1_n_n_wf
    | n + 4, h => absurd h (by omega)

/-- One block of 256 queries. -/
def block (T : Nat) (hT : T < 4) (k : C F A) : C F A :=
  .ld (.pk false) ![0, 0, 0, 0] ![32 * (T + 1), 2, 4, 128] (inb4 (by omega) (by omega) (by omega) (by omega)) (pos4 (by omega) (by omega) (by omega) (by omega)) fun kx =>
  .ld .q ![0, 0, 256 * T, 0] S1x1x256x128.size (inb4 (by omega) (by omega) (by omega) (by omega)) (pos4 (by omega) (by omega) (by omega) (by omega)) fun qx =>
  .ld .s ![T, 0, 0] ![1, 256 * (T + 1), 256] (inb3 (by omega) (by omega) (by omega)) (pos3 (by omega) (by omega) (by omega)) fun _ =>
  .st .s ![T, 0, 0] ![1, 256 * (T + 1), 256] (inb3 (by omega) (by omega) (by omega))
    (shapeCast ⟨3, ![1, 256 * (T + 1), 256]⟩ (matmul (dotS T hT) none (shapeCast ⟨2, ![256 * (T + 1), 128]⟩ kx (by show Shape.numel ⟨2, _⟩ = Shape.numel ⟨4, _⟩; rw [num2, num4]; omega) : FVec F _ .fp8e4m3)
      (shapeCast S256x128 qx shapeCasts_S1x1x256x128_S256x128 : FVec F _ .fp8e4m3) (constant ⟨2, ![256 * (T + 1), 256]⟩ .f32 0x00000000#32)) (by show Shape.numel ⟨3, _⟩ = Shape.numel ⟨2, _⟩; rw [num2, num3]; omega))
    (View.stores_vmem_bits_univ (pos3 (by omega) (by omega) (by omega)) rfl) <|
  tile A T 0 hT (by omega) <|
  tile A T 1 hT (by omega) <|
  .ld .vt ![0, 0] ![128, 256 * (T + 1)] (inb2 (by omega) (by omega)) (pos2 (by omega) (by omega)) fun vx =>
  .ld .w ![T, 0, 0] ![1, 256 * (T + 1), 256] (inb3 (by omega) (by omega) (by omega)) (pos3 (by omega) (by omega) (by omega)) fun wx =>
  .ld .o ![0, 256 * T, 0] S1x256x128.size (inb3 (by omega) (by omega) (by omega)) (pos3 (by omega) (by omega) (by omega)) fun _ =>
  .st .o ![0, 256 * T, 0] S1x256x128.size (inb3 (by omega) (by omega) (by omega))
    (shapeCast S1x256x128 (transpose S256x128 [1, 0] (truncf .bf16 (matmul (dotO T hT) none (vx : FVec F _ .bf16)
      (shapeCast ⟨2, ![256 * (T + 1), 256]⟩ wx (by show Shape.numel ⟨2, _⟩ = Shape.numel ⟨3, _⟩; rw [num2, num3]; omega) : FVec F _ .bf16) (constant S128x256 .f32 0x00000000#32)) bitsLt_bf16_f32)
      transposes_S128x256_p1_0_S256x128) shapeCasts_S256x128_S1x256x128)
    (View.stores_vmem (pos3 (by omega) (by omega) (by omega)) ((A.whole .o).storeExact_slice rfl _ (packed3 (p := 2) (by omega) (by omega) _)) (fun _ => rfl)) k

/-- The key each packed row holds, within its pair of blocks. -/
def keyv : IVec S128x128 32 :=
  let row : IVec S128x128 32 := iota .tc S128x128 32 [0] iota_S128x128_d0_w32
  addi (addi (muli (broadcast S128x128 64#32) (andi (shrsi row (broadcast S128x128 2#32)) (broadcast S128x128 1#32)))
    (muli (broadcast S128x128 4#32) (shrsi row (broadcast S128x128 3#32)))) (andi row (broadcast S128x128 3#32))

/-- What is added to the own pair's scores: nothing where the key is attended to, and the masked score elsewhere. -/
def biasv : FVec F S128x128 .f32 :=
  select (andi (cmpi .sle keyv (iota .tc S128x128 32 [1] iota_S128x128_d1_w32))
      (cmpi .ne (modv broadcasts_S128x128_S128x128 64#32 keyv) (broadcast S128x128 63#32)))
    (broadcast S128x128 (Scalar.ofBits .f32 0x00000000#32)) (broadcast S128x128 (Named.named κ "masked" 0xF149F2CA#32))

/-- What the first grid point does beforehand. -/
def init (k : C F A) : C F A :=
  .ld .bias ![0, 0] S128x128.size (inb2 (by omega) (by omega)) (pos2 (by omega) (by omega)) fun _ =>
  .st .bias ![0, 0] S128x128.size (inb2 (by omega) (by omega)) (shapeCast S128x128 biasv shapeCasts_S128x128_S128x128)
    (View.stores_vmem_bits_univ (pos2 (by omega) (by omega)) rfl) <|
  .ld .w ![0, 0, 0] S4x1024x256.size (inb3 (by omega) (by omega) (by omega)) (pos3 (by omega) (by omega) (by omega)) fun _ =>
  .st .w ![0, 0, 0] S4x1024x256.size (inb3 (by omega) (by omega) (by omega))
    (shapeCast S4x1024x256 (broadcast S4x1024x256 (Scalar.ofBits .bf16 0x0000#16)) shapeCasts_S4x1024x256_S4x1024x256)
    (View.stores_vmem (pos3 (by omega) (by omega) (by omega)) ((A.whole .w).storeExact_slice rfl _
      (.inl fun | 0 => ⟨rfl, rfl, rfl⟩ | 1 => ⟨rfl, rfl, rfl⟩ | 2 => ⟨rfl, rfl, rfl⟩)) (fun _ => rfl)) k

/-- What every grid point does. -/
def body (i : grid0.Coords) : C F A :=
  ilv A false <| ilv A true <| vtC A <| scales A i <|
  block A 0 (by omega) <| block A 1 (by omega) <| block A 2 (by omega) <| block A 3 (by omega) .done

end Cert.KernelIdeal.Struct
-- ==== Proof.Sound.lean ====
module

public import proofs.«01_k».proof.Proof.Struct
public import Idealize.ShloMosaic.Lib.Pipeline.FrameBody

@[expose] public section

set_option maxRecDepth 16384

noncomputable section

namespace Cert.KernelIdeal.Struct

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

/-- The buffers, one by one. -/
def slots : List Slot := [.q, .code false, .code true, .scale false, .scale true, .o, .pk false, .pk true, .vt, .sp false, .sp true, .bias, .s, .w]

instance : Fintype Slot := ⟨slots.toFinset, fun a => by
  cases a with
  | code c => cases c <;> decide
  | scale c => cases c <;> decide
  | pk c => cases c <;> decide
  | sp c => cases c <;> decide
  | _ => decide⟩

/-- The buffers owned whole, each at its contents in `X`. -/
def Own (c : Dev nD) (M : Mems) (X : St F) : sProp (MT nD τ sig Unit (Elt F) ℕ (UR sig nD τ) ℕ) :=
  bigSep Finset.univ fun a => owns (c : Thread nD τ) (M a) fullShare (X a)

/-- All but one. -/
def Rest (c : Dev nD) (M : Mems) (X : St F) (a : Slot) : sProp (MT nD τ sig Unit (Elt F) ℕ (UR sig nD τ) ℕ) :=
  bigSep (Finset.univ.erase a) fun a => owns (c : Thread nD τ) (M a) fullShare (X a)

theorem Own_split (c : Dev nD) (M : Mems) (X : St F) (a : Slot) :
    Own c M X = iprop((∃ f, ⌜(M a).view.read (Elt F) f = X a⌝ ∗ ((M a).view.loc (c : Thread nD τ) ↦[(M a).view.set]{fullShare} f)) ∗ Rest c M X a) :=
  bigSep_univ_split a

theorem St.set_same (X : St F) (a : Slot) (x) : X.set a x a = x := by simp [St.set]
theorem St.set_other (X : St F) {a b : Slot} (h : b ≠ a) (x) : X.set a x b = X b := by simp [St.set, h]

theorem Rest_set (c : Dev nD) (M : Mems) (X : St F) (a : Slot) (x) : Rest c M (X.set a x) a = Rest c M X a :=
  bigSep_congr fun b hb => by rw [X.set_other (Finset.ne_of_mem_erase hb)]

/-- A program run from owned buffers ends with them at the contents `run` computes. -/
theorem sound (M : Mems) (m2 : Memref sig .tc .smem S2x12 .f32) (c : Dev nD) (E : Set ℕ) (sc : S2x12.Idx → Elt F .f32) (K : PUnit → sProp (MT nD τ sig Unit (Elt F) ℕ (UR sig nD τ) ℕ)) :
    ∀ (C : Cmd F M) (X : St F),
      iprop(Own c M X ∗ owns (c : Thread nD τ) m2 fullShare sc ∗ (iprop(Own c M (C.run M sc X) ∗ owns (c : Thread nD τ) m2 fullShare sc) -∗ K ⟨⟩))
        ⊢ wp frame (wpE (defs₀ (F := F)) Variants.none c none) E (C.prog M m2) K := by
  intro C
  induction C with
  | done =>
    intro X
    iintro ⟨H, Hs, HK⟩
    unfold Cmd.prog Cmd.run
    rw [wp_ret]; imodintro
    iapply HK
    isplitl [H]; · iexact H
    iexact Hs
  | ld a off sz inb h k ih =>
    intro X
    rw [Own_split c M X a]
    iintro ⟨⟨⟨%f, %hf, Ha⟩, Hr⟩, Hs, HK⟩
    iapply (wp_load Variants.none (c : Thread nD τ) none E (S := (M a).view.set) (View.setOn_subset_set _ _)) $$ Ha
    iintro Ha
    rw [View.readAt_unit (M a).view f inb rfl inb, hf]
    iapply (ih _ X)
    isplitl [Ha Hr]
    · rw [Own_split c M X a]
      isplitl [Ha]
      · iexists f; isplitr
        · ipureintro; exact hf
        · iexact Ha
      · iexact Hr
    isplitl [Hs]; · iexact Hs
    iexact HK
  | ldq a off₀ sz₀ inb₀ s' hq off sz inb h k ih =>
    intro X
    rw [Own_split c M X a]
    iintro ⟨⟨⟨%f, %hf, Ha⟩, Hr⟩, Hs, HK⟩
    iapply (wp_load Variants.none (c : Thread nD τ) none E (m := ((M a).slice (Rect.unit off₀ sz₀ inb₀) (fun _ => rfl)).squeeze s' hq) (S := (M a).view.set)
      ((View.setOn_subset_set _ _).trans ((View.set_reshape_subset _ _ (View.set_slice_subset _ _))))) $$ Ha
    iintro Ha
    rw [show (((M a).slice (Rect.unit off₀ sz₀ inb₀) (fun _ => rfl)).squeeze s' hq).view.readAt (Elt F) (Rect.unit off sz inb).toLoadRect f
      = fun y => (M a).view.read (Elt F) f ((Rect.unit off₀ sz₀ inb₀).emb (Shape.reshapeEquiv hq.numel_eq ((Rect.unit off sz inb).emb y))) from rfl, hf]
    iapply (ih _ X)
    isplitl [Ha Hr]
    · rw [Own_split c M X a]
      isplitl [Ha]
      · iexists f; isplitr
        · ipureintro; exact hf
        · iexact Ha
      · iexact Hr
    isplitl [Hs]; · iexact Hs
    iexact HK
  | st a off sz inb x h k ih =>
    intro X
    rw [Own_split c M X a]
    iintro ⟨⟨⟨%f, %hf, Ha⟩, Hr⟩, Hs, HK⟩
    iapply (wp_store Variants.none (c : Thread nD τ) none E (m := M a) (r := Rect.unit off sz inb) (S := (M a).view.set)
      ((View.setOn_subset_set _ _).trans (View.set_slice_subset _ _))) $$ Ha
    iintro Ha
    iapply (ih (X.set a (VecWindow.put (X a) off sz x)))
    isplitl [Ha Hr]
    · rw [Own_split c M _ a, Rest_set]
      isplitl [Ha]
      · iexists _; isplitr
        swap; · iexact Ha
        · ipureintro
          rw [X.set_same, ← hf]
          exact funext fun y => (View.read_writes_cons_unit (M a).view (f := f) inb x [] y rfl).trans rfl
      · iexact Hr
    isplitl [Hs]; · iexact Hs
    iexact HK
  | sm off inb k ih =>
    intro X
    unfold owns
    iintro ⟨H, ⟨%f, %hf, Ha⟩, HK⟩
    iapply (wp_smemLoadElt Variants.none (c : Thread nD τ) none E (m := m2) (r := Rect.unit (s := S2x12) off S1x1.size inb) (S := m2.view.set)
      (View.set_slice_subset _ _)) $$ Ha
    iintro Ha
    iapply (ih _ X)
    isplitl [H]; · iexact H
    isplitl [Ha]
    · unfold owns; iexists f; isplitr
      · ipureintro; exact hf
      · iexact Ha
    unfold owns
    subst hf
    iexact HK

end Cert.KernelIdeal.Struct
-- ==== Proof.Stage.lean ====
module

public import proofs.«01_k».proof.Proof.Sound
public import proofs.«01_k».proof.Proof.Gen.KernelIdeal
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.Pointwise.Reshape

@[expose] public section

set_option maxRecDepth 16384

noncomputable section

namespace Cert.KernelIdeal.Struct

open Idealize.ShloMosaic hiding ix1 ix2 ix3 ix4 ix5 ix6
open Idealize.SL.Sem Facts Facts₀ K0.Facts₀ Shapes1.Facts₀ Shapes2.Facts₀
open Idealize.ShloMosaic.ValueIdx

/-! ## Loops -/

section Loops

variable {M : Mems} {sc : S2x12.Idx → Elt Ideal .f32}

/-- A loop whose every step keeps an invariant ends in a state that has it. -/
theorem forN_run {I : Nat → St Ideal → Prop} {N : Nat} (f : (j : Nat) → j < N → Cmd Ideal M → Cmd Ideal M)
    (hf : ∀ j hj k X, I j X → ∃ X', I (j + 1) X' ∧ (f j hj k).run M sc X = k.run M sc X') :
    ∀ n h k X, I 0 X → ∃ X', I n X' ∧ (forN M N f n h k).run M sc X = k.run M sc X'
  | 0, _, _, X, h0 => ⟨X, h0, rfl⟩
  | n + 1, h, k, X, h0 => by
      obtain ⟨X', h1, e1⟩ := forN_run f hf n (Nat.le_of_succ_le h) (f n h k) X h0
      obtain ⟨X'', h2, e2⟩ := hf n h k X' h1
      exact ⟨X'', h2, e1.trans e2⟩

/-- The values for the indices below `n`, and `d` elsewhere. -/
def lst {α : Type} (d : α) (n : Nat) (val : Nat → α) : Nat → α := fun v => if v < n then val v else d

/-- Reading values one after another, where a read leaves the state alone, hands them all on. -/
theorem ldN_run {α : Type} (d : α) {N : Nat} (body : (j : Nat) → j < N → (α → Cmd Ideal M) → Cmd Ideal M) (val : Nat → α) (X : St Ideal)
    (hb : ∀ j hj k, (body j hj k).run M sc X = (k (val j)).run M sc X) :
    ∀ n h k, (ldN M d N body n h k).run M sc X = (k (lst d n val)).run M sc X
  | 0, _, k => rfl
  | n + 1, h, k => by
      refine (ldN_run d body val X hb n (Nat.le_of_succ_le h) _).trans ((hb n h _).trans ?_)
      congr 2
      funext v
      unfold lst
      by_cases hv : v = n
      · subst hv; rw [if_pos rfl, if_pos (Nat.lt_succ_self _)]
      · rw [if_neg hv]
        by_cases h1 : v < n
        · rw [if_pos h1, if_pos (Nat.lt_succ_of_lt h1)]
        · rw [if_neg h1, if_neg (by omega)]

end Loops

/-! ## Boxes and indices -/

theorem put_in {α : Type} {s : Shape} (x : s.Idx → α) (off : Fin s.rank → Nat) {size : Fin s.rank → Nat} (w : ((a : Fin s.rank) → Fin (size a)) → α) (y : s.Idx)
    (z : (a : Fin s.rank) → Fin (size a)) (h : ∀ a, (y a).val = off a + (z a).val) : VecWindow.put x off size w y = w z := by
  have hb : ∀ a, off a ≤ (y a).val ∧ (y a).val < off a + size a := fun a => ⟨by rw [h a]; omega, by rw [h a]; have := (z a).isLt; omega⟩
  unfold VecWindow.put
  rw [dif_pos hb]
  refine congrArg w (funext fun a => Fin.ext ?_)
  show (y a).val - off a = _
  rw [h a]; omega

theorem put_out {α : Type} {s : Shape} (x : s.Idx → α) (off size : Fin s.rank → Nat) (w : ((a : Fin s.rank) → Fin (size a)) → α) (y : s.Idx)
    (a : Fin s.rank) (h : (y a).val < off a ∨ off a + size a ≤ (y a).val) : VecWindow.put x off size w y = x y := by
  unfold VecWindow.put
  rw [dif_neg fun hb => by have := hb a; omega]

theorem emb_eq {s : Shape} (off size : Fin s.rank → Nat) (inb : ∀ a, off a + size a ≤ s.size a) (z : (Rect.unit off size inb).shape.Idx)
    (y : s.Idx) (h : ∀ a, (y a).val = off a + (z a).val) : (Rect.unit off size inb).emb z = y := funext fun a => Fin.ext (by
  show off a + 1 * (z a).val = (y a).val
  rw [h a, Nat.one_mul])

/-- Indices from numbers, taken modulo the extents. -/
def nx2 {A B : Nat} [NeZero A] [NeZero B] (a b : Nat) : (⟨2, ![A, B]⟩ : Shape).Idx := ix2 (Fin.ofNat A a) (Fin.ofNat B b)
def nx3 {A B C : Nat} [NeZero A] [NeZero B] [NeZero C] (a b c : Nat) : (⟨3, ![A, B, C]⟩ : Shape).Idx :=
  ix3 (Fin.ofNat A a) (Fin.ofNat B b) (Fin.ofNat C c)
def nx4 {A B C D : Nat} [NeZero A] [NeZero B] [NeZero C] [NeZero D] (a b c d : Nat) : (⟨4, ![A, B, C, D]⟩ : Shape).Idx :=
  ix4 (Fin.ofNat A a) (Fin.ofNat B b) (Fin.ofNat C c) (Fin.ofNat D d)

theorem ext2 {A B : Nat} {x y : (⟨2, ![A, B]⟩ : Shape).Idx} (h0 : (x 0).val = (y 0).val) (h1 : (x 1).val = (y 1).val) : x = y :=
  funext fun | 0 => Fin.ext h0 | 1 => Fin.ext h1
theorem ext3 {A B C : Nat} {x y : (⟨3, ![A, B, C]⟩ : Shape).Idx} (h0 : (x 0).val = (y 0).val) (h1 : (x 1).val = (y 1).val)
    (h2 : (x 2).val = (y 2).val) : x = y := funext fun | 0 => Fin.ext h0 | 1 => Fin.ext h1 | 2 => Fin.ext h2
theorem ext4 {A B C D : Nat} {x y : (⟨4, ![A, B, C, D]⟩ : Shape).Idx} (h0 : (x 0).val = (y 0).val) (h1 : (x 1).val = (y 1).val)
    (h2 : (x 2).val = (y 2).val) (h3 : (x 3).val = (y 3).val) : x = y :=
  funext fun | 0 => Fin.ext h0 | 1 => Fin.ext h1 | 2 => Fin.ext h2 | 3 => Fin.ext h3

/-- The key that packed row `n` holds. -/
def keyOf (n : Nat) : Nat := 128 * (n / 128) + 64 * (n % 8 / 4) + 4 * (n % 128 / 8) + n % 4

theorem keyOf_lt {n N : Nat} (h : n < 128 * N) : keyOf n < 128 * N := by unfold keyOf; omega

variable (A : Args)

/-! ## The codes interleaved -/

/-- The packed buffer filled up to step `J`, everything else as in `X`. -/
def IlvInv (c : Bool) (X : St Ideal) (J : Nat) (Y : St Ideal) : Prop :=
  (∀ b, b ≠ .pk c → Y b = X b) ∧ ∀ (m : Fin 128) (b : Fin 2) (r : Fin 4) (d : Fin 128), 4 * (m.val / 16) + 2 * b.val + m.val % 16 / 8 < J →
    Y (.pk c) (ix4 m b r d) = X (.code c) (nx4 0 0 (128 * (m.val / 16) + 64 * b.val + 4 * (m.val % 16) + r.val) d.val)

theorem ilv_run (c : Bool) (sc : S2x12.Idx → Elt Ideal .f32) (k : C Ideal A) (X : St Ideal) :
    ∃ Y, IlvInv c X 32 Y ∧ (ilv A c k).run A.mem sc X = k.run A.mem sc Y := by
  refine forN_run (I := fun p => IlvInv c X (4 * p)) _ (fun p hp k X₁ h₁ => ?_) 8 le_rfl k X ⟨fun _ _ => rfl, fun _ _ _ _ h => absurd h (by omega)⟩
  refine forN_run (I := fun b => IlvInv c X (4 * p + 2 * b)) _ (fun b hb k X₂ h₂ => ?_) 2 le_rfl k X₁ h₁
  refine forN_run (I := fun g => IlvInv c X (4 * p + 2 * b + g)) _ (fun g hg k X₃ h₃ => ?_) 2 le_rfl k X₂ h₂
  refine ⟨_, ⟨fun a ha => ?_, fun m b' r d hlt => ?_⟩, rfl⟩
  · exact (St.set_other _ ha _).trans (h₃.1 a ha)
  · have := m.isLt; have := b'.isLt; have := r.isLt
    rw [St.set_same]
    by_cases hin : 4 * (m.val / 16) + 2 * b'.val + m.val % 16 / 8 < 4 * p + 2 * b + g
    · refine Eq.trans ?_ (h₃.2 m b' r d hin)
      by_cases h1 : b'.val = b
      · refine put_out _ _ _ _ _ (0 : Fin 4) ?_
        show m.val < 16 * p + 8 * g ∨ 16 * p + 8 * g + 8 ≤ m.val
        omega
      · refine put_out _ _ _ _ _ (1 : Fin 4) ?_
        show b'.val < b ∨ b + 1 ≤ b'.val
        omega
    · refine (put_in (s := S128x2x4x128) (size := S8x1x4x128.size) _ _ _ _ (ix4 (⟨m.val - (16 * p + 8 * g), by omega⟩ : Fin 8) (⟨0, by omega⟩ : Fin 1) r d) ?_).trans ?_
      · intro a
        match a with
        | 0 => show m.val = 16 * p + 8 * g + (m.val - (16 * p + 8 * g)); omega
        | 1 => show b'.val = b + 0; omega
        | 2 => show r.val = 0 + r.val; omega
        | 3 => show d.val = 0 + d.val; omega
      · show X₃ (.code c) _ = _
        rw [h₃.1 _ (by simp)]
        refine congrArg (X (.code c)) ?_
        have e1 : Shape.reshapeEquiv shapeCasts_S32x128_S32x128 (Shape.reshapeEquiv shapeCasts_S32x128_S8x4x128 (Shape.reshapeEquiv
            shapeCasts_S8x4x128_S8x1x4x128 (ix4 (⟨m.val - (16 * p + 8 * g), by omega⟩ : Fin 8) (⟨0, by omega⟩ : Fin 1) r d)))
            = ix2 (⟨4 * (m.val - (16 * p + 8 * g)) + r.val, by omega⟩ : Fin 32) d := Shape.reshapeEquiv_eq_of_rowMajor _ (by
          rw [Shape.rowMajor_reshapeEquiv, Shape.rowMajor_reshapeEquiv, Shape.rowMajor_val_two, Shape.rowMajor_val_four]
          show (4 * (m.val - (16 * p + 8 * g)) + r.val) * 128 + d.val = (((m.val - (16 * p + 8 * g)) * 1 + 0) * 4 + r.val) * 128 + d.val
          omega)
        refine emb_eq _ _ _ _ _ ?_
        rw [show (Rect.unit (s := S1024x128) ![128 * p + 64 * b + 32 * g, 0] S32x128.size (inb2 (by omega) (by omega))).emb (Shape.reshapeEquiv shapeCasts_S32x128_S32x128 (Shape.reshapeEquiv shapeCasts_S32x128_S8x4x128 (Shape.reshapeEquiv
            shapeCasts_S8x4x128_S8x1x4x128 (ix4 (⟨m.val - (16 * p + 8 * g), by omega⟩ : Fin 8) (⟨0, by omega⟩ : Fin 1) r d))))
            = ix2 (⟨128 * p + 64 * b + 32 * g + (4 * (m.val - (16 * p + 8 * g)) + r.val), by omega⟩ : Fin 1024) d from by
          rw [e1]; exact emb_eq _ _ _ _ _ fun | 0 => rfl | 1 => (Nat.zero_add _).symm, reshapeEquiv_ix2_11ab]
        intro a
        match a with
        | 0 => rfl
        | 1 => rfl
        | 2 =>
          show (128 * (m.val / 16) + 64 * b'.val + 4 * (m.val % 16) + r.val) % 1024 = 0 + (128 * p + 64 * b + 32 * g + (4 * (m.val - (16 * p + 8 * g)) + r.val))
          omega
        | 3 => show d.val % 128 = 0 + d.val; omega

/-! ## The values transposed -/

theorem vtC_run (sc : S2x12.Idx → Elt Ideal .f32) (k : C Ideal A) (X : St Ideal) :
    ∃ Y : St Ideal, (∀ b, b ≠ .vt → Y b = X b) ∧ (∀ (d : Fin 128) (n : Fin 1024), Y .vt (ix2 d n) = X (.pk true) (nx4 (n.val / 8) (n.val % 8 / 4) (n.val % 4) d.val))
      ∧ (vtC A k).run A.mem sc X = k.run A.mem sc Y := by
  refine ⟨_, fun b hb => St.set_other _ hb _, fun d n => ?_, rfl⟩
  have := n.isLt; have := d.isLt
  rw [St.set_same]
  refine (put_in (s := S128x1024) (size := S128x1024.size) _ _ _ _ (ix2 d n) fun | 0 => (Nat.zero_add _).symm | 1 => (Nat.zero_add _).symm).trans ?_
  rw [shapeCast_id, transpose_ix2_apply]
  show X (.pk true) _ = _
  refine congrArg (X (.pk true)) (emb_eq _ _ _ _ _ ?_)
  rw [show Shape.reshapeEquiv shapeCasts_S128x2x4x128_S1024x128 (ix2 n d) = nx4 (n.val / 8) (n.val % 8 / 4) (n.val % 4) d.val from
    Shape.reshapeEquiv_eq_of_rowMajor _ (by
      rw [Shape.rowMajor_val_two, Shape.rowMajor_val_four]
      show (((n.val / 8 % 128) * 2 + (n.val % 8 / 4 % 2)) * 4 + n.val % 4 % 4) * 128 + d.val % 128 = n.val * 128 + d.val
      omega)]
  intro a
  match a with
  | 0 => exact (Nat.zero_add _).symm
  | 1 => exact (Nat.zero_add _).symm
  | 2 => exact (Nat.zero_add _).symm
  | 3 => exact (Nat.zero_add _).symm

/-! ## The scales spread -/

theorem gidx_at (a : Fin 8) (n : Fin 128) : (gidx (ix2 a n)).toNat % 128 = 64 * (n.val % 8 / 4) + 4 * (n.val / 8) + n.val % 4 := by
  revert a n; decide +kernel

theorem spread_run (c : Bool) (row : V8 Ideal) (sc : S2x12.Idx → Elt Ideal .f32) (k : C Ideal A) (X : St Ideal) :
    ∃ Y : St Ideal, ((∀ b, b ≠ .sp c → Y b = X b) ∧ (∀ (n : Fin 1024) (l : Fin 128), n.val < 128 * 8 →
        Y (.sp c) (ix2 n l) = row (nx2 (n.val / 128) (keyOf n.val % 128))))
      ∧ (spread A c row k).run A.mem sc X = k.run A.mem sc Y := by
  unfold spread
  refine forN_run (I := fun p Y => (∀ b, b ≠ .sp c → Y b = X b) ∧ ∀ (n : Fin 1024) (l : Fin 128), n.val < 128 * p →
    Y (.sp c) (ix2 n l) = row (nx2 (n.val / 128) (keyOf n.val % 128))) _ (fun p hp k X₁ h₁ => ?_) 8 le_rfl k X ⟨fun _ _ => rfl, fun _ _ h => absurd h (by omega)⟩
  refine ⟨_, ⟨fun a ha => (St.set_other _ ha _).trans (h₁.1 a ha), fun n l hn => ?_⟩, rfl⟩
  rw [St.set_same]
  by_cases h : n.val < 128 * p
  · exact (put_out (s := S1024x128) _ _ _ _ _ 0 (.inl h)).trans (h₁.2 n l h)
  · refine (put_in (s := S1024x128) (size := S128x128.size) _ _ _ _ (ix2 (⟨n.val - 128 * p, by omega⟩ : Fin 128) l) ?_).trans ?_
    · exact fun | 0 => (show n.val = 128 * p + (n.val - 128 * p) by omega) | 1 => (Nat.zero_add _).symm
    · rw [shapeCast_id, transpose_ix2_apply, broadcastTo_1b_ab_apply, shapeCast_id]
      show row _ = _
      refine congrArg row (ext2 ?_ ?_)
      · show p + 0 = n.val / 128 % 8
        omega
      · have := gidx_at ⟨p, hp⟩ ⟨n.val - 128 * p, by omega⟩
        refine Eq.trans ?_ (this.trans ?_)
        · refine congrArg (fun i => (gidx i).toNat % 128) (ext2 ?_ ?_)
          · show p + 0 = p
            omega
          · show 0 + (n.val - 128 * p) = n.val - 128 * p
            omega
        · show 64 * ((n.val - 128 * p) % 8 / 4) + 4 * ((n.val - 128 * p) / 8) + (n.val - 128 * p) % 4 = keyOf n.val % 128 % 128
          unfold keyOf
          omega

theorem row8_at (x : FVec Ideal S1x1x1024 .f32) (p : Fin 8) (j : Fin 128) : row8 x (ix2 p j) = x (nx3 0 0 (128 * p.val + j.val)) := by
  have := p.isLt; have := j.isLt
  show x _ = _
  refine congrArg x (Shape.reshapeEquiv_eq_of_rowMajor _ ?_)
  rw [Shape.rowMajor_reshapeEquiv, Shape.rowMajor_val_two, Shape.rowMajor_val_three]
  show (0 * 1 + 0) * 1024 + (128 * p.val + j.val) % 1024 = p.val * 128 + j.val
  omega

end Cert.KernelIdeal.Struct
-- ==== Proof.Tiles.lean ====
module

public import proofs.«01_k».proof.Proof.Stage
public import Idealize.ShloMosaic.Lib.Pipeline.Value

@[expose] public section

set_option maxRecDepth 16384

noncomputable section

namespace Cert.KernelIdeal.Struct

open Idealize.ShloMosaic hiding ix1 ix2 ix3 ix4 ix5 ix6
open Idealize.SL.Sem Facts Facts₀ K0.Facts₀ Shapes1.Facts₀ Shapes2.Facts₀
open Idealize.ShloMosaic.ValueIdx

variable (A : Args) (sc : S2x12.Idx → Elt Ideal .f32)

/-! ## The scales -/

/-- A value's scale spread over the queries. -/
theorem scale_at (c : Bool) (i : grid0.Coords) (X : St Ideal) (p : Fin 8) (j : Fin 128) :
    (row8 (F := Ideal) (VecWindow.window (X (.scale c)) (k0_off1 i) S1x1x1024.size (k0_off1_inb i)) (ix2 p j) : EReal) = X (.scale c) (nx3 (i 1).val (i 0).val (128 * p.val + j.val)) := by
  rw [row8_at]
  refine congrArg (X (.scale c)) (emb_eq _ _ _ _ _ fun a => ?_)
  refine Eq.trans ?_ (congrArg (· + _) (congrFun (Gen.k0_off1_eq i) a).symm)
  have h0 : (i 0).val < 2 := (i 0).isLt
  have h1 : (i 1).val < 12 := (i 1).isLt
  match a with
  | 0 => show (i 1).val % 12 = (i 1).val + 0; omega
  | 1 => show (i 0).val % 2 = (i 0).val + 0; omega
  | 2 => exact (Nat.zero_add _).symm

/-- The factor of every key's score. -/
def scl (i : grid0.Coords) : EReal := sc (nx2 (i 0).val (i 1).val) * Named.named (F := Ideal) κ "score_scale" (φ := .f32) 0x3E0293EE#32

theorem scales_run (i : grid0.Coords) (k : C Ideal A) (X : St Ideal) :
    ∃ Y : St Ideal, (∀ b, (∀ c, b ≠ .sp c) → Y b = X b) ∧
      (∀ (n : Fin 1024) (l : Fin 128), Y (.sp false) (ix2 n l) = (X (.scale false) (nx3 (i 1).val (i 0).val (keyOf n.val)) : EReal) * scl sc i) ∧
      (∀ (n : Fin 1024) (l : Fin 128), Y (.sp true) (ix2 n l) = X (.scale true) (nx3 (i 1).val (i 0).val (keyOf n.val))) ∧
      (scales A i k).run A.mem sc X = k.run A.mem sc Y := by
  have key : ∀ n : Fin 1024, 128 * (n.val / 128) + keyOf n.val % 128 = keyOf n.val := fun n => by unfold keyOf; omega
  obtain ⟨Y₁, ⟨h1, h1'⟩, e1⟩ := spread_run A false (mulf (row8 (VecWindow.window (X (.scale false)) (k0_off1 i) S1x1x1024.size (k0_off1_inb i)))
    (broadcast S8x128 (Scalar.mulf (sc ((Rect.unit (s := S2x12) (k0_off2 i) S1x1.size (k0_off2_inb i)).emb (Shape.Idx.first (numel1_S1x1.symm ▸ Nat.one_pos))))
      (Named.named κ "score_scale" 0x3E0293EE#32)))) sc
    (.ld (.scale true) (k0_off1 i) S1x1x1024.size (k0_off1_inb i) (pos3 (by omega) (by omega) (by omega)) fun y => spread A true (row8 y) k) X
  obtain ⟨Y₂, ⟨h2, h2'⟩, e2⟩ := spread_run A true (row8 (VecWindow.window (Y₁ (.scale true)) (k0_off1 i) S1x1x1024.size (k0_off1_inb i))) sc k Y₁
  refine ⟨Y₂, fun b hb => (h2 b (hb true)).trans (h1 b (hb false)), fun n l => ?_, fun n l => ?_, e1.trans e2⟩
  · rw [h2 _ (by simp), h1' n l n.isLt, mulf_apply]
    refine congrArg₂ (· * ·) ?_ (congrArg (· * _) ?_)
    · refine (scale_at false i X _ _).trans (congrArg (fun j => X (.scale false) (nx3 (i 1).val (i 0).val j)) ?_)
      have := key n
      show 128 * (n.val / 128 % 8) + keyOf n.val % 128 % 128 = keyOf n.val
      omega
    · have h0 : (i 0).val < 2 := (i 0).isLt
      have h1 : (i 1).val < 12 := (i 1).isLt
      refine congrArg sc (emb_eq _ _ _ _ _ fun a => ?_)
      refine Eq.trans ?_ (congrArg (· + _) (congrFun (Gen.k0_off2_eq i) a).symm)
      match a with
      | 0 => show (i 0).val % 2 = (i 0).val + 0; omega
      | 1 => show (i 1).val % 12 = (i 1).val + 0; omega
  · rw [h2' n l n.isLt]
    refine (scale_at true i Y₁ _ _).trans ?_
    rw [h1 _ (by simp)]
    refine congrArg (fun j => X (.scale true) (nx3 (i 1).val (i 0).val j)) ?_
    have := key n
    show 128 * (n.val / 128 % 8) + keyOf n.val % 128 % 128 = keyOf n.val
    omega

/-! ## Reading scores -/

/-- Eight packed keys' scaled scores against a tile's queries. -/
def xs (X : St Ideal) (T c p v : Nat) : V8 Ideal :=
  fun y => (X .s (nx3 T (128 * p + 8 * v + (y 0).val) (128 * c + (y 1).val)) : EReal) * X (.sp false) (nx2 (128 * p + 8 * v + (y 0).val) (y 1).val)

theorem ldx_run (T c : Nat) (hT : T < 4) (hc : c < 2) (p : Nat) (hp : p < 8) (v : Nat) (hv : v < 16) (k : V8 Ideal → C Ideal A) (X : St Ideal) :
    (ldx A T c hT hc p hp v hv k).run A.mem sc X = (k (xs X T c p v)).run A.mem sc X := by
  unfold ldx
  show (k _).run A.mem sc X = _
  refine congrArg (fun z => (k z).run A.mem sc X) (funext fun y => ?_)
  obtain ⟨a, b, rfl⟩ : ∃ (a : Fin 8) (b : Fin 128), y = ix2 a b := ⟨y 0, y 1, ext2 rfl rfl⟩
  have := a.isLt; have := b.isLt
  rw [mulf_apply]
  refine congrArg₂ (fun u w : EReal => u * w) (congrArg (X .s) (emb_eq _ _ _ _ _ ?_)) (congrArg (X (.sp false)) (emb_eq _ _ _ _ _ ?_))
  · rw [show (Rect.unit (s := S1024x256) ![128 * p + 8 * v, 128 * c] S8x128.size (inb2 (by omega) (by omega))).emb (ix2 a b)
        = ix2 (⟨128 * p + 8 * v + a.val, by omega⟩ : Fin 1024) (⟨128 * c + b.val, by omega⟩ : Fin 256) from emb_eq _ _ _ _ _ fun | 0 => rfl | 1 => rfl,
      reshapeEquiv_ix2_1ab]
    intro x
    match x with
    | 0 => show T % 4 = T + 0; omega
    | 1 => show (128 * p + 8 * v + a.val) % 1024 = 0 + (128 * p + 8 * v + a.val); omega
    | 2 => show (128 * c + b.val) % 256 = 0 + (128 * c + b.val); omega
  · intro x
    match x with
    | 0 => show (128 * p + 8 * v + a.val) % 1024 = (128 * p + 8 * v + a.val); omega
    | 1 => show b.val % 128 = 0 + b.val; omega

/-! ## Writing weights -/

/-- The weight written for packed key `n` of pair `p` and column `j`. -/
def wAt (X : St Ideal) (p : Nat) (e : Nat → V8 Ideal) (f : V8 Ideal) (n j : Nat) : EReal :=
  (e ((n - 128 * p) / 8) (nx2 (n % 8) (j % 128)) : EReal) * f (nx2 (n % 8) (j % 128)) * X (.sp true) (nx2 n (j % 128))

theorem storeW_run (T c : Nat) (hT : T < 4) (hc : c < 2) (p : Nat) (hp : p < 8) (e : Nat → V8 Ideal) (f : V8 Ideal) (k : C Ideal A) (X : St Ideal) :
    ∃ Y : St Ideal, ((∀ b, b ≠ .w → Y b = X b) ∧ (∀ (T' : Fin 4) (n : Fin 1024) (j : Fin 256), Y .w (ix3 T' n j) =
        if T'.val = T ∧ j.val / 128 = c ∧ 128 * p ≤ n.val ∧ n.val < 128 * p + 16 * 8 then wAt X p e f n.val j.val else X .w (ix3 T' n j))) ∧
      (storeW A T c hT hc p hp e f k).run A.mem sc X = k.run A.mem sc Y := by
  unfold storeW
  refine forN_run (I := fun u Y => (∀ b, b ≠ .w → Y b = X b) ∧ (∀ (T' : Fin 4) (n : Fin 1024) (j : Fin 256), Y .w (ix3 T' n j) =
        if T'.val = T ∧ j.val / 128 = c ∧ 128 * p ≤ n.val ∧ n.val < 128 * p + 16 * u then wAt X p e f n.val j.val else X .w (ix3 T' n j)))
    _ (fun u hu k Z hZ => ?_) 8 le_rfl k X ⟨fun _ _ => rfl, fun _ _ _ => by rw [if_neg (by omega)]⟩
  refine ⟨_, ⟨fun a ha => (St.set_other _ ha _).trans (hZ.1 a ha), fun T' n j => ?_⟩, rfl⟩
  have hn := n.isLt; have hj := j.isLt
  rw [St.set_same]
  by_cases hin : T'.val = T ∧ j.val / 128 = c ∧ 128 * p + 16 * u ≤ n.val ∧ n.val < 128 * p + 16 * u + 16
  · obtain ⟨hT', hjc, hn1, hn2⟩ := hin
    rw [if_pos ⟨hT', hjc, by omega, by omega⟩]
    refine (put_in (s := S4x1024x256) (size := S1x16x128.size) _ _ _ _ (ix3 (0 : Fin 1) (⟨n.val - (128 * p + 16 * u), by omega⟩ : Fin 16)
      (⟨j.val % 128, by omega⟩ : Fin 128)) ?_).trans ?_
    · intro x
      match x with
      | 0 => exact hT'
      | 1 => show n.val = 128 * p + 16 * u + (n.val - (128 * p + 16 * u)); omega
      | 2 => show j.val = 128 * c + j.val % 128; omega
    rw [shapeCast_ab_1ab_apply, shapeCast_id, truncf_apply]
    by_cases h8 : n.val - (128 * p + 16 * u) < 8
    · rw [concatenate_pair_apply_left (s₁ := S8x128) (s₂ := S8x128) (t := S16x128) 0 _ _ _ _ rfl (ix2 (⟨n.val - (128 * p + 16 * u), h8⟩ : Fin 8) (⟨j.val % 128, by omega⟩ : Fin 128)) fun | 0 => rfl | 1 => rfl]
      rw [mulf_apply, mulf_apply]
      have hi : (ix2 (⟨n.val - (128 * p + 16 * u), h8⟩ : Fin 8) (⟨j.val % 128, by omega⟩ : Fin 128)) = nx2 (n.val % 8) (j.val % 128) := ext2
        (show n.val - (128 * p + 16 * u) = n.val % 8 % 8 by omega) (show j.val % 128 = j.val % 128 % 128 by omega)
      rw [hi]
      unfold wAt
      refine congrArg₂ (fun a b : EReal => a * b) (congrArg (fun z : Nat => (e z _ : EReal) * _) (by omega)) ?_
      show Z (.sp true) _ = _
      rw [hZ.1 _ (by simp)]
      refine congrArg (X (.sp true)) (emb_eq _ _ _ _ _ fun | 0 => ?_ | 1 => ?_)
      · show n.val % 1024 = 128 * p + 16 * u + n.val % 8 % 8; omega
      · exact (Nat.zero_add _).symm
    · rw [concatenate_pair_apply_right (s₁ := S8x128) (s₂ := S8x128) (t := S16x128) 0 _ _ _ (ix2 (⟨n.val - (128 * p + 16 * u), by omega⟩ : Fin 16) (⟨j.val % 128, by omega⟩ : Fin 128)) rfl rfl (ix2 (⟨n.val - (128 * p + 16 * u) - 8, by omega⟩ : Fin 8) (⟨j.val % 128, by omega⟩ : Fin 128))
        (fun | 0 => fun h => absurd rfl h | 1 => fun _ => rfl) (show n.val - (128 * p + 16 * u) - 8 + 8 = n.val - (128 * p + 16 * u) by omega)]
      rw [mulf_apply, mulf_apply]
      have hi : (ix2 (⟨n.val - (128 * p + 16 * u) - 8, by omega⟩ : Fin 8) (⟨j.val % 128, by omega⟩ : Fin 128)) = nx2 (n.val % 8) (j.val % 128) := ext2
        (show n.val - (128 * p + 16 * u) - 8 = n.val % 8 % 8 by omega) (show j.val % 128 = j.val % 128 % 128 by omega)
      rw [hi]
      unfold wAt
      refine congrArg₂ (fun a b : EReal => a * b) (congrArg (fun z : Nat => (e z _ : EReal) * _) (by omega)) ?_
      show Z (.sp true) _ = _
      rw [hZ.1 _ (by simp)]
      refine congrArg (X (.sp true)) (emb_eq _ _ _ _ _ fun | 0 => ?_ | 1 => ?_)
      · show n.val % 1024 = 128 * p + 16 * u + 8 + n.val % 8 % 8; omega
      · exact (Nat.zero_add _).symm
  · refine Eq.trans ?_ ((hZ.2 T' n j).trans ?_)
    · by_cases h0 : T'.val = T
      · by_cases h1 : j.val / 128 = c
        · exact put_out (s := S4x1024x256) _ _ _ _ _ 1 (show n.val < 128 * p + 16 * u ∨ 128 * p + 16 * u + 16 ≤ n.val by omega)
        · exact put_out (s := S4x1024x256) _ _ _ _ _ 2 (show j.val < 128 * c ∨ 128 * c + 128 ≤ j.val by omega)
      · exact put_out (s := S4x1024x256) _ _ _ _ _ 0 (show T'.val < T ∨ T + 1 ≤ T'.val by omega)
    · exact if_congr (by omega) rfl rfl

end Cert.KernelIdeal.Struct
-- ==== Proof.Blocks.lean ====
module

public import proofs.«01_k».proof.Proof.Tiles

@[expose] public section

set_option maxRecDepth 16384

noncomputable section

namespace Cert.KernelIdeal.Struct

open Idealize.ShloMosaic hiding ix1 ix2 ix3 ix4 ix5 ix6
open Idealize.SL.Sem Facts Facts₀ K0.Facts₀ Shapes1.Facts₀ Shapes2.Facts₀
open Idealize.ShloMosaic.ValueIdx
open scoped BigOperators

/-! ## What a tile's weights are, in numbers -/

section Numbers

variable (sco : Nat → Nat → EReal) (ks : Nat → EReal)

/-- The scaled scores of eight packed keys of pair `p` against the queries of tile `t`. -/
def xv (t p v : Nat) : V8 Ideal := fun y => sco (128 * p + 8 * v + (y 0).val) (128 * t + (y 1).val) * ks (128 * p + 8 * v + (y 0).val)
/-- A pair's sixteen groups of scores. -/
def xl (t p : Nat) : Nat → V8 Ideal := lst masked 16 (xv sco ks t p)
/-- The bias of eight packed keys. -/
def bv (v : Nat) : V8 Ideal := fun y => biasv (F := Ideal) (nx2 (8 * v + (y 0).val) (y 1).val)
/-- The own pair's scores with the bias. -/
def xbl (t : Nat) : Nat → V8 Ideal := lst masked 16 fun v => addf (xl sco ks t t v) (bv v)
/-- The earlier pairs' last groups. -/
def lml (t : Nat) : Nat → V8 Ideal := lst masked t fun p => xv sco ks t p 15

/-- The weight, without the value's scale, of packed key `n` for lane `l` of tile `t`. -/
def weight (t n l : Nat) : EReal :=
  if n / 128 = t then
    (eOf (xbl sco ks t) ((n - 128 * (n / 128)) / 8) (nx2 (n % 8) l) : EReal) * fOwn t (xl sco ks t t) (lml sco ks t) (xbl sco ks t) (nx2 (n % 8) l)
  else
    (eOf (xPast (xl sco ks t (n / 128))) ((n - 128 * (n / 128)) / 8) (nx2 (n % 8) l) : EReal) *
      fPast t (xl sco ks t t) (lml sco ks t) (xbl sco ks t) (n / 128) (xl sco ks t (n / 128)) (nx2 (n % 8) l)

end Numbers

variable (A : Args) (sc : S2x12.Idx → Elt Ideal .f32)

/-- The buffers hold what a tile of block `T` needs. -/
structure Ready (sco : Nat → Nat → EReal) (ks vs : Nat → EReal) (T : Nat) (X : St Ideal) : Prop where
  s : ∀ (T' : Fin 4) (n : Fin 1024) (j : Fin 256), T'.val = T → n.val < 256 * (T + 1) → (X .s (ix3 T' n j) : EReal) = sco n.val (256 * T + j.val)
  k : ∀ (n : Fin 1024) (l : Fin 128), (X (.sp false) (ix2 n l) : EReal) = ks n.val
  v : ∀ (n : Fin 1024) (l : Fin 128), (X (.sp true) (ix2 n l) : EReal) = vs n.val
  b : ∀ a b : Fin 128, X .bias (ix2 a b) = biasv (F := Ideal) (ix2 a b)

theorem Ready.congr {sco : Nat → Nat → EReal} {ks vs : Nat → EReal} {T : Nat} {X Y : St Ideal} (h : Ready sco ks vs T X) (e : ∀ b, b ≠ .w → Y b = X b) :
    Ready sco ks vs T Y :=
  ⟨fun a b c => by rw [e _ (by simp)]; exact h.s a b c, fun a b => by rw [e _ (by simp)]; exact h.k a b, fun a b => by rw [e _ (by simp)]; exact h.v a b,
    fun a b => by rw [e _ (by simp)]; exact h.b a b⟩

theorem Ready.xs_eq {sco : Nat → Nat → EReal} {ks vs : Nat → EReal} {T : Nat} {X : St Ideal} (h : Ready sco ks vs T X) (hT : T < 4) {c p v : Nat} (hc : c < 2)
    (hp : p ≤ 2 * T + c) (hv : v < 16) : xs X T c p v = xv sco ks (2 * T + c) p v := funext fun y => by
  have h0 : (y 0).val < 8 := (y 0).isLt
  have h1 : (y 1).val < 128 := (y 1).isLt
  refine congrArg₂ (fun a b : EReal => a * b) ((h.s _ _ _ ?_ ?_).trans (congrArg₂ sco ?_ ?_)) ((h.k _ _).trans (congrArg ks ?_))
  · show T % 4 = T; omega
  · show (128 * p + 8 * v + (y 0).val) % 1024 < _; omega
  · show (128 * p + 8 * v + (y 0).val) % 1024 = _; omega
  · show 256 * T + (128 * c + (y 1).val) % 256 = _; omega
  · show (128 * p + 8 * v + (y 0).val) % 1024 = _; omega

theorem wAt_eq {sco : Nat → Nat → EReal} {ks vs : Nat → EReal} {T : Nat} {X : St Ideal} (h : Ready sco ks vs T X) (p : Nat) (e : Nat → V8 Ideal) (f : V8 Ideal)
    (n j : Nat) (hn : n < 1024) : wAt X p e f n j = (e ((n - 128 * p) / 8) (nx2 (n % 8) (j % 128)) : EReal) * f (nx2 (n % 8) (j % 128)) * vs n := by
  unfold wAt
  refine congrArg _ ((h.v _ _).trans (congrArg vs ?_))
  show n % 1024 = n; omega

/-- A tile writes its weights: those of its own pair and of the earlier ones. -/
theorem tile_run {sco : Nat → Nat → EReal} {ks vs : Nat → EReal} (T c : Nat) (hT : T < 4) (hc : c < 2) (k : C Ideal A) (X : St Ideal) (hX : Ready sco ks vs T X) :
    ∃ Y : St Ideal, ((∀ b, b ≠ .w → Y b = X b) ∧ ∀ (T' : Fin 4) (n : Fin 1024) (j : Fin 256), (Y .w (ix3 T' n j) : EReal) =
        if T'.val = T ∧ j.val / 128 = c ∧ n.val / 128 ≤ 2 * T + c then weight sco ks (2 * T + c) n.val (j.val % 128) * vs n.val else X .w (ix3 T' n j)) ∧
      (tile A T c hT hc k).run A.mem sc X = k.run A.mem sc Y := by
  unfold tile
  rw [ldN_run masked _ (xv sco ks (2 * T + c) (2 * T + c)) X fun v hv k => (ldx_run A sc T c hT hc _ _ v hv k X).trans (by rw [hX.xs_eq hT hc le_rfl hv])]
  rw [ldN_run masked _ (fun v => addf (xl sco ks (2 * T + c) (2 * T + c) v) (bv v)) X fun v hv k => by
    show (k _).run A.mem sc X = _
    refine congrArg (fun z => (k z).run A.mem sc X) (congrArg (addf _) (funext fun y => ?_))
    refine (congrArg (X .bias) (emb_eq (s := S128x128) ![8 * v, 0] S8x128.size (inb2 (by omega) (by omega)) y (nx2 (8 * v + (y 0).val) (y 1).val) fun | 0 => ?_ | 1 => ?_)).trans (hX.b _ _)
    · have h0 : (y 0).val < 8 := (y 0).isLt
      show (8 * v + (y 0).val) % 128 = 8 * v + (y 0).val; omega
    · have h0 : (y 1).val < 128 := (y 1).isLt
      show (y 1).val % 128 = 0 + (y 1).val; omega]
  rw [ldN_run masked _ (fun p => xv sco ks (2 * T + c) p 15) X fun p hp k => (ldx_run A sc T c hT hc p _ 15 _ k X).trans (by rw [hX.xs_eq hT hc (by omega) (by omega)])]
  obtain ⟨X₁, ⟨h1, h1'⟩, e1⟩ := storeW_run A sc T c hT hc (2 * T + c) (by omega) (eOf (xbl sco ks (2 * T + c))) (fOwn (2 * T + c) (xl sco ks (2 * T + c) (2 * T + c)) (lml sco ks (2 * T + c)) (xbl sco ks (2 * T + c)))
    (forN A.mem (2 * T + c) (fun p hp k =>
    ldN A.mem masked 16 (ldx A T c hT hc p (by omega)) 16 le_rfl fun y =>
    storeW A T c hT hc p (by omega) (eOf (xPast y)) (fPast (2 * T + c) (xl sco ks (2 * T + c) (2 * T + c)) (lml sco ks (2 * T + c)) (xbl sco ks (2 * T + c)) p y) k) (2 * T + c) le_rfl k) X
  obtain ⟨Y, ⟨h2, h2'⟩, e2⟩ := forN_run (M := A.mem) (sc := sc) (I := fun p Y => (∀ b, b ≠ .w → Y b = X b) ∧ ∀ (T' : Fin 4) (n : Fin 1024) (j : Fin 256), (Y .w (ix3 T' n j) : EReal) =
        if T'.val = T ∧ j.val / 128 = c ∧ (n.val / 128 = 2 * T + c ∨ n.val / 128 < p ∧ n.val / 128 < 2 * T + c) then weight sco ks (2 * T + c) n.val (j.val % 128) * vs n.val else X .w (ix3 T' n j))
    (fun p (hp : p < 2 * T + c) k => ldN A.mem masked 16 (ldx A T c hT hc p (by omega)) 16 le_rfl fun y =>
      storeW A T c hT hc p (by omega) (eOf (xPast y)) (fPast (2 * T + c) (xl sco ks (2 * T + c) (2 * T + c)) (lml sco ks (2 * T + c)) (xbl sco ks (2 * T + c)) p y) k)
    (fun p hp k Z hZ => by
      have hR := hX.congr hZ.1
      rw [ldN_run masked _ (xv sco ks (2 * T + c) p) Z fun v hv k => (ldx_run A sc T c hT hc _ _ v hv k Z).trans (by rw [hR.xs_eq hT hc (by omega) hv])]
      obtain ⟨Z', ⟨g1, g2⟩, e⟩ := storeW_run A sc T c hT hc p (by omega) (eOf (xPast (xl sco ks (2 * T + c) p)))
        (fPast (2 * T + c) (xl sco ks (2 * T + c) (2 * T + c)) (lml sco ks (2 * T + c)) (xbl sco ks (2 * T + c)) p (xl sco ks (2 * T + c) p)) k Z
      refine ⟨Z', ⟨fun b hb => (g1 b hb).trans (hZ.1 b hb), fun T' n j => ?_⟩, e⟩
      have hn := n.isLt
      rw [g2, hZ.2]
      by_cases hin : T'.val = T ∧ j.val / 128 = c ∧ 128 * p ≤ n.val ∧ n.val < 128 * p + 16 * 8
      · rw [if_pos hin, if_pos ⟨hin.1, hin.2.1, by omega⟩, wAt_eq hR _ _ _ _ _ hn]
        unfold weight
        rw [if_neg (by omega), show n.val / 128 = p by omega]
      · rw [if_neg hin]
        exact if_congr (by omega) rfl rfl) (2 * T + c) le_rfl k X₁ ⟨h1, fun T' n j => by
      rw [h1' T' n j]
      have hn := n.isLt
      by_cases hin : T'.val = T ∧ j.val / 128 = c ∧ 128 * (2 * T + c) ≤ n.val ∧ n.val < 128 * (2 * T + c) + 16 * 8
      · rw [if_pos hin, if_pos ⟨hin.1, hin.2.1, by omega⟩, wAt_eq hX _ _ _ _ _ hn]
        unfold weight
        rw [if_pos (by omega), show n.val / 128 = 2 * T + c by omega]
      · rw [if_neg hin, if_neg (by omega)]⟩
  refine ⟨Y, ⟨h2, fun T' n j => (h2' T' n j).trans (if_congr (by omega) rfl rfl)⟩, e1.trans e2⟩

/-! ## A block -/

/-- The buffers hold what every block needs. -/
structure Base (kc qc vc : Nat → Nat → EReal) (ks vs : Nat → EReal) (X : St Ideal) : Prop where
  pk : ∀ (n : Fin 1024) (d : Fin 128), (X (.pk false) (nx4 (n.val / 8) (n.val % 8 / 4) (n.val % 4) d.val) : EReal) = kc n.val d.val
  q : ∀ (r : Fin 1024) (d : Fin 128), (X .q (nx4 0 0 r.val d.val) : EReal) = qc r.val d.val
  vt : ∀ (d : Fin 128) (n : Fin 1024), (X .vt (ix2 d n) : EReal) = vc n.val d.val
  k : ∀ (n : Fin 1024) (l : Fin 128), (X (.sp false) (ix2 n l) : EReal) = ks n.val
  v : ∀ (n : Fin 1024) (l : Fin 128), (X (.sp true) (ix2 n l) : EReal) = vs n.val
  b : ∀ a b : Fin 128, X .bias (ix2 a b) = biasv (F := Ideal) (ix2 a b)
  w : ∀ (T : Fin 4) (n : Fin 1024) (j : Fin 256), n.val / 128 = 2 * T.val + 1 → j.val < 128 → (X .w (ix3 T n j) : EReal) = 0

/-- A packed key's score against a query. -/
def scoreOf (kc qc : Nat → Nat → EReal) (n r : Nat) : EReal := 0 + ∑ d : Fin 128, kc n d.val * qc r d.val
/-- A packed key's weight for a query, with the value's scale. -/
def wOf (sco : Nat → Nat → EReal) (ks vs : Nat → EReal) (r n : Nat) : EReal :=
  if n / 128 ≤ r / 128 then weight sco ks (r / 128) n (r % 128) * vs n else 0
/-- The result for a query. -/
def outOf (sco : Nat → Nat → EReal) (ks vs : Nat → EReal) (vc : Nat → Nat → EReal) (r d : Nat) : EReal :=
  0 + ∑ n : Fin (256 * (r / 256 + 1)), vc n.val d * wOf sco ks vs r n.val

theorem zero32 : (Ideal.ofBits .f32 0x00000000#32 : EReal) = 0 := by
  simp [Ideal.ofBits, Ideal.ieee]

theorem dotS_apply (T : Nat) (hT : T < 4) (l : FVec Ideal ⟨2, ![256 * (T + 1), 128]⟩ .fp8e4m3) (r : FVec Ideal S256x128 .fp8e4m3)
    (acc : FVec Ideal ⟨2, ![256 * (T + 1), 256]⟩ .f32) (n : Fin (256 * (T + 1))) (j : Fin 256) :
    matmul (dotS T hT) none l r acc (ix2 n j) = (acc (ix2 n j) : EReal) + ∑ d : Fin 128, (l (ix2 n d) : EReal) * r (ix2 j d) :=
  Ideal.matmul_transposedRhs_apply (M := 256 * (T + 1)) (K := 128) (N := 256) none l r acc n j

theorem dotO_apply (T : Nat) (hT : T < 4) (l : FVec Ideal ⟨2, ![128, 256 * (T + 1)]⟩ .bf16) (r : FVec Ideal ⟨2, ![256 * (T + 1), 256]⟩ .bf16)
    (acc : FVec Ideal S128x256 .f32) (d : Fin 128) (j : Fin 256) :
    matmul (dotO T hT) none l r acc (ix2 d j) = (acc (ix2 d j) : EReal) + ∑ n : Fin (256 * (T + 1)), (l (ix2 d n) : EReal) * r (ix2 n j) :=
  Ideal.matmul_plain_apply (M := 128) (K := 256 * (T + 1)) (N := 256) none l r acc d j

variable {kc qc vc : Nat → Nat → EReal} {ks vs : Nat → EReal}

theorem block_run (T : Nat) (hT : T < 4) (k : C Ideal A) (X : St Ideal) (hX : Base kc qc vc ks vs X) :
    ∃ Y : St Ideal, Base kc qc vc ks vs Y ∧ (∀ b, b ≠ .s → b ≠ .w → b ≠ .o → Y b = X b) ∧
      (∀ (r : Fin 1024) (d : Fin 128), (Y .o (ix3 (0 : Fin 1) r d) : EReal) = if r.val / 256 = T then outOf (scoreOf kc qc) ks vs vc r.val d.val else X .o (ix3 (0 : Fin 1) r d)) ∧
      (block A T hT k).run A.mem sc X = k.run A.mem sc Y := by
  unfold block
  simp only [Cmd.run]
  generalize hsv : VecWindow.put (X .s) ![T, 0, 0] ![1, 256 * (T + 1), 256] _ = sv
  have hs : ∀ (T' : Fin 4) (n : Fin 1024) (j : Fin 256), T'.val = T → n.val < 256 * (T + 1) → (sv (ix3 T' n j) : EReal) = scoreOf kc qc n.val (256 * T + j.val) := by
    intro T' n j hT' hn
    have hj := j.isLt
    rw [← hsv]
    refine (put_in (s := S4x1024x256) (size := ![1, 256 * (T + 1), 256]) _ _ _ _ (ix3 (0 : Fin 1) (⟨n.val, hn⟩ : Fin (256 * (T + 1))) j) ?_).trans ?_
    · intro x
      match x with
      | 0 => exact hT'
      | 1 => exact (Nat.zero_add _).symm
      | 2 => exact (Nat.zero_add _).symm
    · rw [shapeCast_ab_1ab_apply, dotS_apply, constant_apply]
      refine congrArg₂ (fun a b : EReal => a + b) zero32 (Finset.sum_congr rfl fun d _ => congrArg₂ (fun a b : EReal => a * b) ?_ ?_)
      · have hd := d.isLt
        refine Eq.trans (congrArg (X (.pk false)) (emb_eq _ _ _ _ _ ?_)) (hX.pk n d)
        rw [show Shape.reshapeEquiv _ (ix2 (⟨n.val, hn⟩ : Fin (256 * (T + 1))) d) = ix4 (⟨n.val / 8, by omega⟩ : Fin (32 * (T + 1))) (⟨n.val % 8 / 4, by omega⟩ : Fin 2) (⟨n.val % 4, by omega⟩ : Fin 4) d from
          Shape.reshapeEquiv_eq_of_rowMajor _ (by
            rw [Shape.rowMajor_val_two, Shape.rowMajor_val_four]
            show ((n.val / 8 * 2 + n.val % 8 / 4) * 4 + n.val % 4) * 128 + d.val = n.val * 128 + d.val
            omega)]
        intro x
        match x with
        | 0 => show n.val / 8 % 128 = 0 + n.val / 8; omega
        | 1 => show n.val % 8 / 4 % 2 = 0 + n.val % 8 / 4; omega
        | 2 => show n.val % 4 % 4 = 0 + n.val % 4; omega
        | 3 => show d.val % 128 = 0 + d.val; omega
      · have hd := d.isLt
        refine Eq.trans (congrArg (X .q) (emb_eq _ _ _ _ (nx4 0 0 (256 * T + j.val) d.val) ?_)) (hX.q ⟨256 * T + j.val, by omega⟩ d)
        rw [reshapeEquiv_ix2_11ab]
        intro x
        match x with
        | 0 => rfl
        | 1 => rfl
        | 2 => show (256 * T + j.val) % 1024 = 256 * T + j.val; omega
        | 3 => show d.val % 128 = 0 + d.val; omega
  have hR : Ready (scoreOf kc qc) ks vs T (X.set .s sv) := ⟨fun a b c h1 h2 => by rw [St.set_same]; exact hs a b c h1 h2,
    fun a b => by rw [St.set_other _ (by simp)]; exact hX.k a b, fun a b => by rw [St.set_other _ (by simp)]; exact hX.v a b,
    fun a b => by rw [St.set_other _ (by simp)]; exact hX.b a b⟩
  obtain ⟨Y₀, ⟨h0, h0'⟩, e0⟩ := tile_run A sc T 0 hT (by omega) _ _ hR
  have e0 := e0
  rw [e0]
  obtain ⟨Y₁, ⟨h1, h1'⟩, e1⟩ := tile_run A sc T 1 hT (by omega) _ _ (hR.congr h0)
  rw [e1]
  have hw : ∀ (T' : Fin 4) (n : Fin 1024) (j : Fin 256), T'.val = T → n.val < 256 * (T + 1) → (Y₁ .w (ix3 T' n j) : EReal) = wOf (scoreOf kc qc) ks vs (256 * T + j.val) n.val := by
    intro T' n j hT' hn
    have hj := j.isLt
    rw [h1', h0']
    unfold wOf
    by_cases hc : j.val / 128 = 1
    · rw [if_pos ⟨hT', hc, by omega⟩, if_pos (by omega), show (256 * T + j.val) / 128 = 2 * T + 1 by omega, show (256 * T + j.val) % 128 = j.val % 128 by omega]
    · rw [if_neg (by omega)]
      by_cases hp : n.val / 128 ≤ 2 * T + 0
      · rw [if_pos ⟨hT', by omega, hp⟩, if_pos (by omega), show (256 * T + j.val) / 128 = 2 * T + 0 by omega, show (256 * T + j.val) % 128 = j.val % 128 by omega]
      · rw [if_neg (by omega), if_neg (by omega), St.set_other _ (by simp)]
        exact hX.w T' n j (by omega) (by omega)
  have hO : ∀ b, b ≠ .s → b ≠ .w → Y₁ b = X b := fun b hb hb' => (h1 b hb').trans ((h0 b hb').trans (St.set_other _ hb _))
  simp only [Cmd.run]
  refine ⟨_, ⟨?_, ?_, ?_, ?_, ?_, ?_, ?_⟩, fun b hb hb' hb'' => (St.set_other _ hb'' _).trans (hO b hb hb'), fun r d => ?_, rfl⟩
  · intro a b; rw [St.set_other _ (by simp), hO _ (by simp) (by simp)]; exact hX.pk a b
  · intro a b; rw [St.set_other _ (by simp), hO _ (by simp) (by simp)]; exact hX.q a b
  · intro a b; rw [St.set_other _ (by simp), hO _ (by simp) (by simp)]; exact hX.vt a b
  · intro a b; rw [St.set_other _ (by simp), hO _ (by simp) (by simp)]; exact hX.k a b
  · intro a b; rw [St.set_other _ (by simp), hO _ (by simp) (by simp)]; exact hX.v a b
  · intro a b; rw [St.set_other _ (by simp), hO _ (by simp) (by simp)]; exact hX.b a b
  · intro a b c g1 g2
    rw [St.set_other _ (by simp), h1', h0', if_neg (by omega), if_neg (by omega), St.set_other _ (by simp)]
    exact hX.w a b c g1 g2
  · have hr := r.isLt
    rw [St.set_same]
    by_cases hin : r.val / 256 = T
    · rw [if_pos hin]
      refine (put_in (s := S1x1024x128) (size := S1x256x128.size) _ _ _ _ (ix3 (0 : Fin 1) (⟨r.val - 256 * T, by omega⟩ : Fin 256) d) ?_).trans ?_
      · intro x
        match x with
        | 0 => rfl
        | 1 => show r.val = 256 * T + (r.val - 256 * T); omega
        | 2 => exact (Nat.zero_add _).symm
      rw [shapeCast_ab_1ab_apply, transpose_ix2_apply, truncf_apply, dotO_apply, constant_apply]
      unfold outOf
      subst hin
      refine congrArg₂ (fun a b : EReal => a + b) zero32 (Finset.sum_congr rfl fun n _ => congrArg₂ (fun a b : EReal => a * b) ?_ ?_)
      · have hn := n.isLt
        refine Eq.trans (congrArg (Y₁ .vt) (emb_eq _ _ _ _ (ix2 d (⟨n.val, by omega⟩ : Fin 1024)) ?_)) ?_
        · intro x
          match x with
          | 0 => exact (Nat.zero_add _).symm
          | 1 => exact (Nat.zero_add _).symm
        · rw [hO _ (by simp) (by simp)]; exact hX.vt d _
      · have hn := n.isLt
        rw [shapeCast_1ab_ab_apply]
        refine Eq.trans (congrArg (Y₁ .w) (emb_eq _ _ _ _ (ix3 (⟨r.val / 256, hT⟩ : Fin 4) (⟨n.val, by omega⟩ : Fin 1024) (⟨r.val - 256 * (r.val / 256), by omega⟩ : Fin 256)) ?_)) ?_
        · intro x
          match x with
          | 0 => rfl
          | 1 => exact (Nat.zero_add _).symm
          | 2 => exact (Nat.zero_add _).symm
        · rw [hw _ _ _ rfl hn]
          exact congrArg (fun z => wOf (scoreOf kc qc) ks vs z n.val) (show 256 * (r.val / 256) + (r.val - 256 * (r.val / 256)) = r.val by omega)
    · rw [if_neg hin]
      refine (put_out (s := S1x1024x128) _ _ _ _ _ 1 (show r.val < 256 * T ∨ 256 * T + 256 ≤ r.val by omega)).trans ?_
      rw [hO _ (by simp) (by simp)]

/-! ## A grid point -/

/-- The bias is in place, and the weights no tile writes are zero. -/
structure Kept (X : St Ideal) : Prop where
  b : ∀ a b : Fin 128, X .bias (ix2 a b) = biasv (F := Ideal) (ix2 a b)
  w : ∀ (T : Fin 4) (n : Fin 1024) (j : Fin 256), n.val / 128 = 2 * T.val + 1 → j.val < 128 → (X .w (ix3 T n j) : EReal) = 0

/-- The result of a grid point for query `r` and column `d`, from the staged blocks. -/
def point (i : grid0.Coords) (q kc vc : S1x1x1024x128.Idx → EReal) (kr vr : S12x2x1024.Idx → EReal) (r d : Nat) : EReal :=
  outOf (scoreOf (fun n d => kc (nx4 0 0 (keyOf n) d)) fun r d => q (nx4 0 0 r d))
    (fun n => kr (nx3 (i 1).val (i 0).val (keyOf n)) * scl sc i) (fun n => vr (nx3 (i 1).val (i 0).val (keyOf n)))
    (fun n d => vc (nx4 0 0 (keyOf n) d)) r d

theorem body_run (i : grid0.Coords) (X : St Ideal) (hX : Kept X) :
    Kept ((body A i).run A.mem sc X) ∧
      (∀ b, b = .q ∨ (∃ c, b = .code c) ∨ (∃ c, b = .scale c) → (body A i).run A.mem sc X b = X b) ∧
      ∀ (r : Fin 1024) (d : Fin 128), ((body A i).run A.mem sc X .o (ix3 (0 : Fin 1) r d) : EReal) =
        point sc i (X .q) (X (.code false)) (X (.code true)) (X (.scale false)) (X (.scale true)) r.val d.val := by
  unfold body
  obtain ⟨X₁, ⟨h1, h1'⟩, e1⟩ := ilv_run A false sc (ilv A true <| vtC A <| scales A i <|
    block A 0 (by omega) <| block A 1 (by omega) <| block A 2 (by omega) <| block A 3 (by omega) .done) X
  obtain ⟨X₂, ⟨h2, h2'⟩, e2⟩ := ilv_run A true sc (vtC A <| scales A i <|
    block A 0 (by omega) <| block A 1 (by omega) <| block A 2 (by omega) <| block A 3 (by omega) .done) X₁
  obtain ⟨X₃, h3, h3', e3⟩ := vtC_run A sc (scales A i <|
    block A 0 (by omega) <| block A 1 (by omega) <| block A 2 (by omega) <| block A 3 (by omega) .done) X₂
  obtain ⟨X₄, h4, h4f, h4t, e4⟩ := scales_run A sc i (
    block A 0 (by omega) <| block A 1 (by omega) <| block A 2 (by omega) <| block A 3 (by omega) .done) X₃
  have hb : Base (fun n d => X (.code false) (nx4 0 0 (keyOf n) d)) (fun r d => X .q (nx4 0 0 r d)) (fun n d => X (.code true) (nx4 0 0 (keyOf n) d))
      (fun n => (X (.scale false) (nx3 (i 1).val (i 0).val (keyOf n)) : EReal) * scl sc i) (fun n => X (.scale true) (nx3 (i 1).val (i 0).val (keyOf n))) X₄ := by
    refine ⟨?_, ?_, ?_, ?_, ?_, ?_, ?_⟩
    · intro n d
      have hn := n.isLt
      rw [h4 _ (by simp), h3 _ (by simp), h2 _ (by simp)]
      refine (h1' _ _ _ _ ?_).trans (congrArg₂ (fun z w => X (.code false) (nx4 0 0 z w)) ?_ ?_)
      · show 4 * (n.val / 8 % 128 / 16) + 2 * (n.val % 8 / 4 % 2) + n.val / 8 % 128 % 16 / 8 < 32; omega
      · show 128 * (n.val / 8 % 128 / 16) + 64 * (n.val % 8 / 4 % 2) + 4 * (n.val / 8 % 128 % 16) + n.val % 4 % 4 = keyOf n.val
        unfold keyOf; omega
      · have := d.isLt
        show d.val % 128 = d.val; omega
    · intro r d
      rw [h4 _ (by simp), h3 _ (by simp), h2 _ (by simp), h1 _ (by simp)]
    · intro d n
      have hn := n.isLt
      rw [h4 _ (by simp), h3']
      refine (h2' _ _ _ _ ?_).trans ?_
      · show 4 * (n.val / 8 % 128 / 16) + 2 * (n.val % 8 / 4 % 2) + n.val / 8 % 128 % 16 / 8 < 32; omega
      · rw [h1 _ (by simp)]
        refine congrArg₂ (fun z w => X (.code true) (nx4 0 0 z w)) ?_ ?_
        · show 128 * (n.val / 8 % 128 / 16) + 64 * (n.val % 8 / 4 % 2) + 4 * (n.val / 8 % 128 % 16) + n.val % 4 % 4 = keyOf n.val
          unfold keyOf; omega
        · have := d.isLt
          show d.val % 128 = d.val; omega
    · intro n l
      rw [h4f, h3 _ (by simp), h2 _ (by simp), h1 _ (by simp)]
    · intro n l
      rw [h4t, h3 _ (by simp), h2 _ (by simp), h1 _ (by simp)]
    · intro a b
      rw [h4 _ (by simp), h3 _ (by simp), h2 _ (by simp), h1 _ (by simp)]; exact hX.b a b
    · intro a b c g1 g2
      rw [h4 _ (by simp), h3 _ (by simp), h2 _ (by simp), h1 _ (by simp)]; exact hX.w a b c g1 g2
  obtain ⟨Y₀, b0, f0, o0, r0⟩ := block_run A sc 0 (by omega) (block A 1 (by omega) <| block A 2 (by omega) <| block A 3 (by omega) .done) _ hb
  obtain ⟨Y₁, b1, f1, o1, r1⟩ := block_run A sc 1 (by omega) (block A 2 (by omega) <| block A 3 (by omega) .done) _ b0
  obtain ⟨Y₂, b2, f2, o2, r2⟩ := block_run A sc 2 (by omega) (block A 3 (by omega) .done) _ b1
  obtain ⟨Y₃, b3, f3, o3, r3⟩ := block_run A sc 3 (by omega) .done _ b2
  rw [show (ilv A false <| ilv A true <| vtC A <| scales A i <|
    block A 0 (by omega) <| block A 1 (by omega) <| block A 2 (by omega) <| block A 3 (by omega) .done).run A.mem sc X = Y₃ from
    e1.trans <| e2.trans <| e3.trans <| e4.trans <| r0.trans <| r1.trans <| r2.trans r3]
  refine ⟨⟨b3.b, b3.w⟩, fun b hb => ?_, fun r d => ?_⟩
  · rcases hb with rfl | ⟨c, rfl⟩ | ⟨c, rfl⟩ <;>
    rw [f3 _ (by simp) (by simp) (by simp), f2 _ (by simp) (by simp) (by simp), f1 _ (by simp) (by simp) (by simp), f0 _ (by simp) (by simp) (by simp),
      h4 _ (by simp), h3 _ (by simp), h2 _ (by simp), h1 _ (by simp)]
  · have hr := r.isLt
    rw [o3, o2, o1, o0]
    unfold point
    by_cases c3 : r.val / 256 = 3
    · rw [if_pos c3]
    · rw [if_neg c3]
      by_cases c2 : r.val / 256 = 2
      · rw [if_pos c2]
      · rw [if_neg c2]
        by_cases c1 : r.val / 256 = 1
        · rw [if_pos c1]
        · rw [if_neg c1, if_pos (by omega)]

/-- What the first grid point does beforehand puts the bias in place and the weights to zero. -/
theorem init_run (k : C Ideal A) (X : St Ideal) : ∃ Y : St Ideal, Kept Y ∧ (∀ b, b ≠ .bias → b ≠ .w → Y b = X b) ∧ (init A k).run A.mem sc X = k.run A.mem sc Y := by
  unfold init
  simp only [Cmd.run]
  refine ⟨_, ⟨fun a b => ?_, fun T n j _ _ => ?_⟩, fun b hb hb' => (St.set_other _ hb' _).trans (St.set_other _ hb _), rfl⟩
  · rw [St.set_other _ (by simp), St.set_same]
    refine (put_in (s := S128x128) (size := S128x128.size) _ _ _ _ (ix2 a b) fun | 0 => (Nat.zero_add _).symm | 1 => (Nat.zero_add _).symm).trans ?_
    rw [shapeCast_id]
  · rw [St.set_same]
    refine (put_in (s := S4x1024x256) (size := S4x1024x256.size) _ _ _ _ (ix3 T n j) fun | 0 => (Nat.zero_add _).symm | 1 => (Nat.zero_add _).symm | 2 => (Nat.zero_add _).symm).trans ?_
    rw [shapeCast_id]
    show (Ideal.ofBits .bf16 0x0000#16 : EReal) = 0
    simp [Ideal.ofBits, Ideal.ieee]

end Cert.KernelIdeal.Struct
-- ==== Proof.Soft.lean ====
module

public import Idealize.ShloMosaic.PureOps.Ideal
public import Idealize.ShloMosaic.PureOps.Ideal.Laws
public import Mathlib.Analysis.SpecialFunctions.Pow.Real

@[expose] public section

noncomputable section

/-! The weights of landmark attention as real numbers, and the laws of extended reals that lead to them. -/

namespace Cert.Soft

open Idealize.ShloMosaic
open Finset

/-- A score, or minus infinity where it does not take part. -/
def opt (P : Prop) [Decidable P] (a : ℝ) : EReal := if P then (a : EReal) else ⊥

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The largest of some scores of which one takes part is a real number. -/
theorem sup_real {ι : Type} (s : Finset ι) (P : ι → Prop) [DecidablePred P] (a : ι → ℝ) (h : ∃ i ∈ s, P i) :
    ∃ m : ℝ, s.sup (fun i => opt (P i) (a i)) = (m : EReal) := by
  obtain ⟨i, hi, hP⟩ := h
  obtain ⟨k, hk, e⟩ := Finset.exists_mem_eq_sup s ⟨i, hi⟩ (fun i => opt (P i) (a i))
  have hle := Finset.le_sup (f := fun i => opt (P i) (a i)) hi
  rw [e] at hle ⊢
  by_cases hk' : P k
  · exact ⟨a k, if_pos hk'⟩
  · exfalso
    rw [show (opt (P k) (a k)) = ⊥ from if_neg hk', show opt (P i) (a i) = (a i : EReal) from if_pos hP] at hle
    exact absurd (le_bot_iff.1 hle) (EReal.coe_ne_bot _)

theorem exp_opt (P : Prop) [Decidable P] (a m : ℝ) :
    Ideal.exp (opt P a - (m : EReal)) = ((if P then Real.exp (a - m) else 0 : ℝ) : EReal) := by
  unfold opt
  split_ifs
  · rw [← EReal.coe_sub, Ideal.exp_coe]
  · rw [EReal.bot_sub, Ideal.exp_bot]; rfl

theorem exp2_opt (P : Prop) [Decidable P] (a m : ℝ) :
    Ideal.exp2 (opt P (a / Real.log 2) - (m : EReal)) = ((if P then Real.exp a / Real.exp (m * Real.log 2) else 0 : ℝ) : EReal) := by
  have h2 : Real.log 2 ≠ 0 := (Real.log_pos (by norm_num)).ne'
  unfold opt
  split_ifs
  · rw [← EReal.coe_sub, Ideal.exp2_coe]
    refine congrArg _ ?_
    show (2 : ℝ) ^ (a / Real.log 2 - m) = _
    rw [Real.rpow_def_of_pos (by norm_num), ← Real.exp_sub]
    congr 1; field_simp
  · rw [EReal.bot_sub, Ideal.exp2_bot]; rfl

/-- The logarithm of a sum of exponentials, taken against any real number. -/
theorem lse_eq {ι : Type} (s : Finset ι) (P : ι → Prop) [DecidablePred P] (a : ι → ℝ) (h : ∃ i ∈ s, P i) (m : ℝ) :
    (m : EReal) + Ideal.log (0 + ∑ i ∈ s, Ideal.exp (opt (P i) (a i) - (m : EReal))) =
      ((Real.log (∑ i ∈ s, if P i then Real.exp (a i) else 0) : ℝ) : EReal) := by
  have e : (0 + ∑ i ∈ s, Ideal.exp (opt (P i) (a i) - (m : EReal))) = (((∑ i ∈ s, if P i then Real.exp (a i) else 0) * Real.exp (-m) : ℝ) : EReal) := by
    rw [zero_add, Finset.sum_mul, coe_sum]
    refine Finset.sum_congr rfl fun i _ => ?_
    rw [exp_opt]
    refine congrArg _ ?_
    split_ifs
    · rw [← Real.exp_add]; rfl
    · rw [zero_mul]
  have hp : 0 < ∑ i ∈ s, if P i then Real.exp (a i) else 0 := by
    obtain ⟨i, hi, hP⟩ := h
    refine Finset.sum_pos' (fun i _ => ?_) ⟨i, hi, ?_⟩
    · split_ifs
      · exact (Real.exp_pos _).le
      · exact le_rfl
    · rw [if_pos hP]; exact Real.exp_pos _
  rw [e, Ideal.log_coe, if_neg (not_le.2 (mul_pos hp (Real.exp_pos _))), ← EReal.coe_add, Real.log_mul hp.ne' (Real.exp_pos _).ne', Real.log_exp]
  refine congrArg _ ?_
  ring

theorem sum_pos_of {ι : Type} (s : Finset ι) (P : ι → Prop) [DecidablePred P] (a : ι → ℝ) (h : ∃ i ∈ s, P i) :
    0 < ∑ i ∈ s, if P i then Real.exp (a i) else 0 := by
  obtain ⟨i, hi, hP⟩ := h
  refine Finset.sum_pos' (fun i _ => ?_) ⟨i, hi, ?_⟩
  · split_ifs
    · exact (Real.exp_pos _).le
    · exact le_rfl
  · rw [if_pos hP]; exact Real.exp_pos _

variable (s : Nat → ℝ)

/-- The sum of the exponentials of a block's scores, the landmark's left out. -/
def den (c : Nat) : ℝ := ∑ j ∈ range 64, if j < 63 then Real.exp (s (64 * c + j)) else 0

/-- What a block adds to the outer sum: its landmark's exponential if it lies before the query's own block, its visible
    regular keys' if it is the query's own. -/
def part (r c : Nat) : ℝ :=
  if c < r / 64 then Real.exp (s (64 * c + 63))
  else if c = r / 64 then ∑ j ∈ range 64, (if j ≤ r % 64 ∧ j < 63 then Real.exp (s (64 * c + j)) else 0) else 0

/-- The outer sum. -/
def tot (r : Nat) : ℝ := ∑ c ∈ range 16, part s r c

/-- The weight of key `k` for query `r`. -/
def W (r k : Nat) : ℝ :=
  if k / 64 = r / 64 ∧ k % 64 ≤ r % 64 ∧ k % 64 < 63 then Real.exp (s k) / tot s r
  else if k / 64 < r / 64 ∧ k % 64 < 63 then Real.exp (s (64 * (k / 64) + 63)) * Real.exp (s k) / (tot s r * den s (k / 64)) else 0

theorem den_pos (c : Nat) : 0 < den s c := sum_pos_of _ _ (fun j => s (64 * c + j)) ⟨0, by simp, by omega⟩

theorem own_pos (r c : Nat) : 0 < ∑ j ∈ range 64, if j ≤ r % 64 ∧ j < 63 then Real.exp (s (64 * c + j)) else 0 :=
  sum_pos_of _ _ (fun j => s (64 * c + j)) ⟨0, by simp, by omega⟩

theorem part_nonneg (r c : Nat) : 0 ≤ part s r c := by
  unfold part
  split_ifs
  · exact (Real.exp_pos _).le
  · exact (own_pos s r c).le
  · exact le_rfl

theorem tot_pos (r : Nat) (hr : r < 1024) : 0 < tot s r := by
  refine Finset.sum_pos' (fun c _ => part_nonneg s r c) ⟨r / 64, by simp; omega, ?_⟩
  unfold part
  rw [if_neg (by omega), if_pos rfl]
  exact own_pos s r _

/-- The outer sum over all keys that take part. -/
theorem tot_eq (r : Nat) : tot s r = ∑ c ∈ range 16, ∑ j ∈ range 64,
    if (c = r / 64 ∧ j ≤ r % 64 ∧ j < 63) ∨ (c < r / 64 ∧ ¬ j < 63) then Real.exp (s (64 * c + j)) else 0 := by
  refine Finset.sum_congr rfl fun c _ => ?_
  unfold part
  split_ifs with h1 h2
  · rw [Finset.sum_eq_single 63]
    · rw [if_pos (by omega)]
    · intro j hj h; rw [if_neg]; have := Finset.mem_range.1 hj; omega
    · simp
  · refine Finset.sum_congr rfl fun j _ => ?_
    subst h2
    simp
  · rw [Finset.sum_eq_zero]
    intro j _; rw [if_neg]; omega

end Cert.Soft
-- ==== Proof.Lanes.lean ====
module

public import proofs.«01_k».proof.Proof.Blocks
public import proofs.«01_k».proof.Proof.Soft
public import Idealize.ShloMosaic.Lib.KernelVsHost

@[expose] public section

set_option maxRecDepth 16384

noncomputable section

/-! The kernel's vector values read at one lane: reductions over the four sublanes of a half and over the sixteen groups,
    as reductions over the 64 keys of a block. -/

namespace Cert.KernelIdeal.Struct

open Idealize.ShloMosaic hiding ix1 ix2 ix3 ix4 ix5 ix6
open Idealize.SL.Sem Facts Facts₀ K0.Facts₀ Shapes1.Facts₀ Shapes2.Facts₀
open Idealize.ShloMosaic.ValueIdx
open Finset

/-! ## Masks -/

/-- The floor remainder of one entry. -/
def modw (n x : BitVec 32) : BitVec 32 :=
  let d : BitVec 32 := Scalar.select (Scalar.cmpi .eq n 0#32) 1#32 n
  let r : BitVec 32 := IntOp.remsi .vector x d
  Scalar.select (IntOp.andi (IntOp.xori (Scalar.cmpi .slt r 0#32) (Scalar.cmpi .slt d 0#32)) (Scalar.cmpi .ne r 0#32)) (IntOp.addi r d) r

theorem modv_apply {s : Shape} (hb : s.Broadcasts s) (n : BitVec 32) (x : IVec s 32) (i : s.Idx) : modv hb n x i = modw n (x i) := rfl

theorem sub_at {k l : Nat} (hk : k < 8) : sub (nx2 k l) = BitVec.ofNat 32 k := by
  refine congrArg (BitVec.ofNat 32) ?_
  show 0 * 8 + k % 8 = k
  omega
theorem lane_at {k l : Nat} (hl : l < 128) : lane (nx2 k l) = BitVec.ofNat 32 l := by
  refine congrArg (BitVec.ofNat 32) ?_
  show 0 * 128 + l % 128 = l
  omega

theorem even_at {k l : Nat} (hk : k < 8) :
    cmpi .eq (modv broadcasts_S8x128_S8x128 2#32 sub) (broadcast S8x128 0#32) (nx2 k l) = if k % 2 = 0 then 1#1 else 0#1 := by
  show Scalar.cmpi .eq (modw 2#32 (sub (nx2 k l))) 0#32 = _
  rw [sub_at hk]
  exact (by decide +kernel : ∀ k : Fin 8, Scalar.cmpi .eq (modw 2#32 (BitVec.ofNat 32 k.val)) 0#32 = if k.val % 2 = 0 then 1#1 else 0#1) ⟨k, hk⟩

theorem low_at {k l : Nat} (hk : k < 8) :
    cmpi .slt (modv broadcasts_S8x128_S8x128 4#32 sub) (broadcast S8x128 2#32) (nx2 k l) = if k % 4 < 2 then 1#1 else 0#1 := by
  show Scalar.cmpi .slt (modw 4#32 (sub (nx2 k l))) 2#32 = _
  rw [sub_at hk]
  exact (by decide +kernel : ∀ k : Fin 8, Scalar.cmpi .slt (modw 4#32 (BitVec.ofNat 32 k.val)) 2#32 = if k.val % 4 < 2 then 1#1 else 0#1) ⟨k, hk⟩

theorem lmRow_at {k l : Nat} (hk : k < 8) : lmRow (nx2 k l) = if k % 4 = 3 then 1#1 else 0#1 := by
  show Scalar.cmpi .eq (modw 4#32 (sub (nx2 k l))) 3#32 = _
  rw [sub_at hk]
  exact (by decide +kernel : ∀ k : Fin 8, Scalar.cmpi .eq (modw 4#32 (BitVec.ofNat 32 k.val)) 3#32 = if k.val % 4 = 3 then 1#1 else 0#1) ⟨k, hk⟩

theorem isOwn_at {k l : Nat} (hk : k < 8) (hl : l < 128) : isOwn (nx2 k l) = if k / 4 = l / 64 then 1#1 else 0#1 := by
  show IntOp.xori (IntOp.xori (Scalar.cmpi .sge (sub (nx2 k l)) 4#32) (Scalar.cmpi .sge (lane (nx2 k l)) 64#32)) 1#1 = _
  rw [sub_at hk, lane_at hl]
  exact (by decide +kernel : ∀ (k : Fin 8) (l : Fin 128), IntOp.xori (IntOp.xori (Scalar.cmpi .sge (BitVec.ofNat 32 k.val) 4#32)
    (Scalar.cmpi .sge (BitVec.ofNat 32 l.val) 64#32)) 1#1 = if k.val / 4 = l.val / 64 then 1#1 else 0#1) ⟨k, hk⟩ ⟨l, hl⟩

theorem isDead_at {k l : Nat} (hk : k < 8) (hl : l < 128) : isDead (nx2 k l) = if 4 ≤ k ∧ l < 64 then 1#1 else 0#1 := by
  show IntOp.andi (Scalar.cmpi .sge (sub (nx2 k l)) 4#32) (Scalar.cmpi .slt (lane (nx2 k l)) 64#32) = _
  rw [sub_at hk, lane_at hl]
  exact (by decide +kernel : ∀ (k : Fin 8) (l : Fin 128), IntOp.andi (Scalar.cmpi .sge (BitVec.ofNat 32 k.val) 4#32)
    (Scalar.cmpi .slt (BitVec.ofNat 32 l.val) 64#32) = if 4 ≤ k.val ∧ l.val < 64 then 1#1 else 0#1) ⟨k, hk⟩ ⟨l, hl⟩

theorem masked_eq : (Named.named (F := Ideal) κ "masked" (φ := .f32) 0xF149F2CA#32 : EReal) = ⊥ := by
  rfl

/-- The pattern of minus infinity denotes minus infinity. -/
theorem ninf_eq : (Ideal.ofBits .f32 0xFF800000#32 : EReal) = ⊥ := by
  simp [Ideal.ofBits, Ideal.ieee]

theorem one_eq : (Ideal.ofBits .f32 0x3F800000#32 : EReal) = 1 := by
  simp [Ideal.ofBits, Ideal.ieee]
  rw [← EReal.coe_mul]
  norm_num

/-- The bias: nothing where the key is seen, minus infinity elsewhere. -/
theorem bv_at {v k l : Nat} (hv : v < 16) (hk : k < 8) (hl : l < 128) :
    (bv v (nx2 k l) : EReal) = if 64 * (k / 4) + (4 * v + k % 4) ≤ l ∧ 4 * v + k % 4 < 63 then 0 else ⊥ := by
  have e : ∀ n l : Nat, n < 128 → l < 128 → (biasv (F := Ideal) (nx2 n l) : EReal) =
      Scalar.select (IntOp.andi (Scalar.cmpi .sle (IntOp.addi (IntOp.addi (IntOp.muli 64#32 (IntOp.andi (IntOp.shrsi .vector (BitVec.ofNat 32 n) 2#32) 1#32))
        (IntOp.muli 4#32 (IntOp.shrsi .vector (BitVec.ofNat 32 n) 3#32))) (IntOp.andi (BitVec.ofNat 32 n) 3#32)) (BitVec.ofNat 32 l))
        (Scalar.cmpi .ne (modw 64#32 (IntOp.addi (IntOp.addi (IntOp.muli 64#32 (IntOp.andi (IntOp.shrsi .vector (BitVec.ofNat 32 n) 2#32) 1#32))
        (IntOp.muli 4#32 (IntOp.shrsi .vector (BitVec.ofNat 32 n) 3#32))) (IntOp.andi (BitVec.ofNat 32 n) 3#32))) 63#32))
        (Ideal.ofBits .f32 0x00000000#32 : EReal) (Named.named (F := Ideal) κ "masked" (φ := .f32) 0xF149F2CA#32 : EReal) := by
    intro n l hn hl
    have h1 : iota .tc S128x128 32 [0] iota_S128x128_d0_w32 (nx2 n l) = BitVec.ofNat 32 n := by
      refine congrArg (BitVec.ofNat 32) ?_
      show 0 * 128 + n % 128 = n
      omega
    have h2 : iota .tc S128x128 32 [1] iota_S128x128_d1_w32 (nx2 n l) = BitVec.ofNat 32 l := by
      refine congrArg (BitVec.ofNat 32) ?_
      show 0 * 128 + l % 128 = l
      omega
    rw [← h1, ← h2]
    rfl
  have d : ∀ (n l : Fin 128), (IntOp.andi (Scalar.cmpi .sle (IntOp.addi (IntOp.addi (IntOp.muli 64#32 (IntOp.andi (IntOp.shrsi .vector (BitVec.ofNat 32 n.val) 2#32) 1#32))
        (IntOp.muli 4#32 (IntOp.shrsi .vector (BitVec.ofNat 32 n.val) 3#32))) (IntOp.andi (BitVec.ofNat 32 n.val) 3#32)) (BitVec.ofNat 32 l.val))
        (Scalar.cmpi .ne (modw 64#32 (IntOp.addi (IntOp.addi (IntOp.muli 64#32 (IntOp.andi (IntOp.shrsi .vector (BitVec.ofNat 32 n.val) 2#32) 1#32))
        (IntOp.muli 4#32 (IntOp.shrsi .vector (BitVec.ofNat 32 n.val) 3#32))) (IntOp.andi (BitVec.ofNat 32 n.val) 3#32))) 63#32)) =
      if 64 * (n.val % 8 / 4) + (4 * (n.val / 8) + n.val % 4) ≤ l.val ∧ 4 * (n.val / 8) + n.val % 4 < 63 then 1#1 else 0#1 := by decide +kernel
  show (biasv (F := Ideal) (nx2 (8 * v + k % 8) (l % 128)) : EReal) = _
  rw [Nat.mod_eq_of_lt hk, Nat.mod_eq_of_lt hl, e _ _ (by omega) hl, d ⟨8 * v + k, by omega⟩ ⟨l, hl⟩]
  show Scalar.select (if 64 * ((8 * v + k) % 8 / 4) + (4 * ((8 * v + k) / 8) + (8 * v + k) % 4) ≤ l ∧ 4 * ((8 * v + k) / 8) + (8 * v + k) % 4 < 63 then 1#1 else 0#1) _ _ = _
  rw [show (8 * v + k) % 8 = k by omega, show (8 * v + k) / 8 = v by omega, show (8 * v + k) % 4 = k % 4 by omega]
  split_ifs with h
  · rw [show Scalar.select 1#1 (Ideal.ofBits .f32 0x00000000#32 : EReal) _ = Ideal.ofBits .f32 0x00000000#32 from rfl, zero32]
  · exact masked_eq

/-! ## Rotations and halves -/

theorem rot_at {α : Type} (sb : BitVec 32) (n : Nat) (hn : sb.toNat = n) (x : S8x128.Idx → α) {k l : Nat} (hk : k < 8) (h : S8x128.Rotates 0 none) :
    dynamicRotate 0 sb none x h (nx2 k l) = x (nx2 ((k + 8 - n % 8) % 8) l) := by
  refine dynamicRotate_apply 0 sb x h _ _ fun b => ?_
  match b with
  | 0 =>
    rw [if_pos rfl, hn]
    show (k + 8 - n % 8) % 8 % 8 = (k % 8 + 8 - n % 8) % 8
    omega
  | 1 => rw [if_neg (by decide)]; rfl

theorem group4_at (op : V8 Ideal → V8 Ideal → V8 Ideal) (o : EReal → EReal → EReal) (ho : ∀ a b i, op a b i = o (a i) (b i))
    (hc : ∀ a b, o a b = o b a) (ha : ∀ a b c, o (o a b) c = o a (o b c)) (x : V8 Ideal) (h u l : Nat) (hh : h < 2) (hu : u < 4) :
    group4 op x (nx2 (4 * h + u) l) = o (o (x (nx2 (4 * h) l)) (x (nx2 (4 * h + 1) l))) (o (x (nx2 (4 * h + 2) l)) (x (nx2 (4 * h + 3) l))) := by
  have y : ∀ k, k < 8 → (op x (select (cmpi .eq (modv broadcasts_S8x128_S8x128 2#32 sub) (broadcast S8x128 0#32))
      (dynamicRotate 0 7#32 none x rotates_S8x128_d0) (dynamicRotate 0 1#32 none x rotates_S8x128_d0))) (nx2 k l) =
      o (x (nx2 k l)) (x (nx2 (if k % 2 = 0 then k + 1 else k - 1) l)) := by
    intro k hk
    rw [ho, select_apply, even_at hk, rot_at _ 7 rfl x hk, rot_at _ 1 rfl x hk]
    split_ifs
    · rw [show (k + 8 - 7 % 8) % 8 = k + 1 by omega]; rfl
    · rw [show (k + 8 - 1 % 8) % 8 = k - 1 by omega]; rfl
  have hk : 4 * h + u < 8 := by omega
  unfold group4
  simp only
  rw [ho, select_apply, low_at hk, rot_at _ 6 rfl _ hk, rot_at _ 2 rfl _ hk, y _ hk, y _ (by omega), y _ (by omega)]
  have hs : ∀ (c : Prop) [Decidable c] (a b : EReal), Scalar.select (if c then 1#1 else 0#1) a b = if c then a else b := by
    intro c _ a b; split_ifs <;> rfl
  rw [hs]
  have h4 : u = 0 ∨ u = 1 ∨ u = 2 ∨ u = 3 := by omega
  have h2 : h = 0 ∨ h = 1 := by omega
  rcases h4 with rfl | rfl | rfl | rfl <;> rcases h2 with rfl | rfl <;> simp only [Nat.reduceMul, Nat.reduceAdd, Nat.reduceMod, Nat.reduceSub, reduceIte, Nat.reduceEqDiff, Nat.reduceLT]
  all_goals
    haveI : Std.Commutative o := ⟨hc⟩
    haveI : Std.Associative o := ⟨ha⟩
    ac_rfl

/-! ## A half's 64 keys -/

/-- At a half and a lane, a pair's groups hold `x j` for key `j` of the block. -/
def Reads (X : Nat → V8 Ideal) (h l : Nat) (x : Nat → EReal) : Prop := ∀ v u, v < 16 → u < 4 → X v (nx2 (4 * h + u) l) = x (4 * v + u)

theorem max64 (x : Nat → EReal) : max (max (fold16 max fun v => x (4 * v)) (fold16 max fun v => x (4 * v + 1)))
    (max (fold16 max fun v => x (4 * v + 2)) (fold16 max fun v => x (4 * v + 3))) = (range 64).sup x := by
  refine le_antisymm ?_ (Finset.sup_le fun j hj => ?_)
  · have hle : ∀ j, j < 64 → x j ≤ (range 64).sup x := fun j hj => Finset.le_sup (Finset.mem_range.2 hj)
    simp only [fold16, max_le_iff]
    refine ⟨⟨?_, ?_⟩, ?_, ?_⟩ <;> refine ⟨⟨⟨⟨?_, ?_⟩, ?_, ?_⟩, ⟨?_, ?_⟩, ?_, ?_⟩, ⟨⟨?_, ?_⟩, ?_, ?_⟩, ⟨?_, ?_⟩, ?_, ?_⟩ <;> exact hle _ (by omega)
  · have hj' := Finset.mem_range.1 hj
    have hf : ∀ (y : Nat → EReal) v, v < 16 → y v ≤ fold16 max y := by
      intro y v hv
      unfold fold16
      interval_cases v <;> simp only [le_max_iff, le_refl, true_or, or_true]
    have e : j = 4 * (j / 4) + j % 4 := by omega
    have h4 : j % 4 = 0 ∨ j % 4 = 1 ∨ j % 4 = 2 ∨ j % 4 = 3 := by omega
    have hv : j / 4 < 16 := by omega
    rw [e]
    rcases h4 with h | h | h | h <;> rw [h]
    · exact le_max_of_le_left (le_max_of_le_left (hf (fun v => x (4 * v)) _ hv))
    · exact le_max_of_le_left (le_max_of_le_right (hf (fun v => x (4 * v + 1)) _ hv))
    · exact le_max_of_le_right (le_max_of_le_left (hf (fun v => x (4 * v + 2)) _ hv))
    · exact le_max_of_le_right (le_max_of_le_right (hf (fun v => x (4 * v + 3)) _ hv))

theorem fold16_add (y : Nat → EReal) : fold16 (· + ·) y = ∑ v ∈ range 16, y v := by
  unfold fold16
  simp only [Finset.sum_range_succ, Finset.sum_range_zero, zero_add]
  simp only [add_assoc]

theorem sum_four (x : Nat → EReal) (n : Nat) : ∑ j ∈ range (4 * n), x j =
    (∑ v ∈ range n, x (4 * v) + ∑ v ∈ range n, x (4 * v + 1)) + (∑ v ∈ range n, x (4 * v + 2) + ∑ v ∈ range n, x (4 * v + 3)) := by
  induction n with
  | zero => simp
  | succ n ih =>
    rw [show 4 * (n + 1) = 4 * n + 1 + 1 + 1 + 1 by ring]
    simp only [Finset.sum_range_succ, ih]
    abel

theorem sum64 (x : Nat → EReal) : (fold16 (· + ·) (fun v => x (4 * v)) + fold16 (· + ·) fun v => x (4 * v + 1)) +
    ((fold16 (· + ·) fun v => x (4 * v + 2)) + fold16 (· + ·) fun v => x (4 * v + 3)) = ∑ j ∈ range 64, x j := by
  rw [fold16_add, fold16_add, fold16_add, fold16_add]
  exact (sum_four x 16).symm

section Half

variable {X : Nat → V8 Ideal} {h l : Nat} {x : Nat → EReal}

theorem fold16_at (op : V8 Ideal → V8 Ideal → V8 Ideal) (o : EReal → EReal → EReal) (ho : ∀ a b i, op a b i = o (a i) (b i)) (Y : Nat → V8 Ideal) (i) :
    fold16 op Y i = fold16 o fun v => Y v i := by
  unfold fold16
  simp only [ho]

theorem fold16_congr (o : EReal → EReal → EReal) (a b : Nat → EReal) (e : ∀ v, v < 16 → a v = b v) : fold16 o a = fold16 o b := by
  unfold fold16
  rw [e 0 (by omega), e 1 (by omega), e 2 (by omega), e 3 (by omega), e 4 (by omega), e 5 (by omega), e 6 (by omega), e 7 (by omega),
    e 8 (by omega), e 9 (by omega), e 10 (by omega), e 11 (by omega), e 12 (by omega), e 13 (by omega), e 14 (by omega), e 15 (by omega)]

theorem reduce_at (op : V8 Ideal → V8 Ideal → V8 Ideal) (o : EReal → EReal → EReal) (ho : ∀ a b i, op a b i = o (a i) (b i))
    (hc : ∀ a b, o a b = o b a) (ha : ∀ a b c, o (o a b) c = o a (o b c)) (hX : Reads X h l x) (hh : h < 2) {u : Nat} (hu : u < 4) :
    group4 op (fold16 op X) (nx2 (4 * h + u) l) =
      o (o (fold16 o fun v => x (4 * v)) (fold16 o fun v => x (4 * v + 1))) (o (fold16 o fun v => x (4 * v + 2)) (fold16 o fun v => x (4 * v + 3))) := by
  rw [group4_at op o ho hc ha _ h u l hh hu]
  simp only [fold16_at op o ho]
  rw [fold16_congr o (fun v => X v (nx2 (4 * h) l)) (fun v => x (4 * v)) fun v hv => hX v 0 hv (by omega),
    fold16_congr o (fun v => X v (nx2 (4 * h + 1) l)) (fun v => x (4 * v + 1)) fun v hv => hX v 1 hv (by omega),
    fold16_congr o (fun v => X v (nx2 (4 * h + 2) l)) (fun v => x (4 * v + 2)) fun v hv => hX v 2 hv (by omega),
    fold16_congr o (fun v => X v (nx2 (4 * h + 3) l)) (fun v => x (4 * v + 3)) fun v hv => hX v 3 hv (by omega)]

theorem mxOf_at (hX : Reads X h l x) (hh : h < 2) {u : Nat} (hu : u < 4) : (mxOf X (nx2 (4 * h + u) l) : EReal) = (range 64).sup x :=
  (reduce_at maximumf max (fun _ _ _ => rfl) max_comm max_assoc hX hh hu).trans (max64 x)

theorem eOf_at (hX : Reads X h l x) (hh : h < 2) : Reads (eOf X) h l fun j => Ideal.exp2 (x j - (range 64).sup x) := fun v u hv hu => by
  show Ideal.exp2 ((X v (nx2 (4 * h + u) l) : EReal) - mxOf X (nx2 (4 * h + u) l)) = _
  rw [mxOf_at hX hh hu, hX v u hv hu]

theorem totOf_at (hX : Reads X h l x) (hh : h < 2) {u : Nat} (hu : u < 4) :
    (totOf X (nx2 (4 * h + u) l) : EReal) = ∑ j ∈ range 64, Ideal.exp2 (x j - (range 64).sup x) :=
  (reduce_at addf (· + ·) (fun _ _ _ => rfl) add_comm add_assoc (eOf_at hX hh) hh hu).trans
    (sum64 fun j => Ideal.exp2 (x j - (range 64).sup x))

theorem landmark_at (y : V8 Ideal) (hh : h < 2) {u : Nat} (hu : u < 4) : (landmark y (nx2 (4 * h + u) l) : EReal) = y (nx2 (4 * h + 3) l) := by
  unfold landmark
  rw [group4_at maximumf max (fun _ _ _ => rfl) max_comm max_assoc _ h u l hh hu]
  simp only [select_apply]
  rw [lmRow_at (by omega), lmRow_at (by omega), lmRow_at (by omega), lmRow_at (by omega), if_neg (by omega), if_neg (by omega), if_neg (by omega), if_pos (by omega)]
  show max (max (Ideal.ofBits .f32 0xFF800000#32 : EReal) (Ideal.ofBits .f32 0xFF800000#32)) (max (Ideal.ofBits .f32 0xFF800000#32 : EReal) (y (nx2 (4 * h + 3) l))) = _
  rw [ninf_eq]
  simp

end Half

theorem roll4_at (op : V8 Ideal → V8 Ideal → V8 Ideal) (o : EReal → EReal → EReal) (ho : ∀ a b i, op a b i = o (a i) (b i))
    (hc : ∀ a b, o a b = o b a) (x : V8 Ideal) {l : Nat} (a b : EReal) (h0 : ∀ u, u < 4 → x (nx2 u l) = a) (h1 : ∀ u, u < 4 → x (nx2 (4 + u) l) = b)
    {k : Nat} (hk : k < 8) : roll4 op x (nx2 k l) = o a b := by
  unfold roll4
  rw [ho, rot_at _ 4 rfl x hk]
  by_cases h : k < 4
  · rw [h0 k h, show (k + 8 - 4 % 8) % 8 = 4 + k by omega, h1 k h]
  · rw [show (k + 8 - 4 % 8) % 8 = k - 4 by omega, h0 (k - 4) (by omega)]
    have e := h1 (k - 4) (by omega)
    rw [show 4 + (k - 4) = k by omega] at e
    rw [e, hc]

theorem foldTo_at (op : V8 Ideal → V8 Ideal → V8 Ideal) (o : EReal → EReal → EReal) (ho : ∀ a b i, op a b i = o (a i) (b i)) (Y : Nat → V8 Ideal) (t : Nat) (i) :
    foldTo op Y t i = foldTo o (fun v => Y v i) t := by
  unfold foldTo
  split <;> simp only [ho]

theorem foldTo_add (y : Nat → EReal) {t : Nat} (ht : t < 8) : foldTo (· + ·) y t = ∑ p ∈ range (t + 1), y p := by
  interval_cases t <;> simp only [foldTo, Finset.sum_range_succ, Finset.sum_range_zero, zero_add, add_assoc]

theorem foldTo_max (y : Nat → EReal) {t : Nat} (ht : t < 8) : foldTo max y t = (range (t + 1)).sup y := by
  interval_cases t <;> simp [foldTo, Finset.range_add_one, Finset.sup_insert, max_comm, max_left_comm, max_assoc]

end Cert.KernelIdeal.Struct
-- ==== Proof.Weights.lean ====
module

public import proofs.«01_k».proof.Proof.Lanes

@[expose] public section

set_option maxRecDepth 16384

noncomputable section

/-! The kernel's weights are the weights of landmark attention. -/

namespace Cert.KernelIdeal.Struct

open Idealize.ShloMosaic hiding ix1 ix2 ix3 ix4 ix5 ix6
open Idealize.SL.Sem Facts Facts₀ K0.Facts₀ Shapes1.Facts₀ Shapes2.Facts₀
open Idealize.ShloMosaic.ValueIdx
open Finset Cert.Soft

theorem sel_if {α : Type} (c : Prop) [Decidable c] (a b : α) : Scalar.select (if c then 1#1 else 0#1) a b = if c then a else b := by
  split_ifs <;> rfl

/-- The largest entry, the exponentials and their sum of a half some of whose keys take part. -/
theorem half_at {X : Nat → V8 Ideal} {h l : Nat} (P : Nat → Prop) [DecidablePred P] (a : Nat → ℝ)
    (hX : Reads X h l fun j => opt (P j) (a j / Real.log 2)) (hh : h < 2) (hP : ∃ i ∈ range 64, P i) : ∃ m : ℝ,
    (∀ u, u < 4 → (mxOf X (nx2 (4 * h + u) l) : EReal) = m) ∧
    (∀ v u, v < 16 → u < 4 → (eOf X v (nx2 (4 * h + u) l) : EReal) =
      ((if P (4 * v + u) then Real.exp (a (4 * v + u)) / Real.exp (m * Real.log 2) else 0 : ℝ) : EReal)) ∧
    ∀ u, u < 4 → (totOf X (nx2 (4 * h + u) l) : EReal) =
      (((∑ j ∈ range 64, if P j then Real.exp (a j) else 0) / Real.exp (m * Real.log 2) : ℝ) : EReal) := by
  obtain ⟨m, hm⟩ := sup_real (range 64) P (fun j => a j / Real.log 2) hP
  refine ⟨m, fun u hu => ?_, fun v u hv hu => ?_, fun u hu => ?_⟩
  · rw [mxOf_at hX hh hu, hm]
  · rw [eOf_at hX hh v u hv hu, hm]; exact exp2_opt _ _ _
  · rw [totOf_at hX hh hu, hm, Finset.sum_div, coe_sum]
    refine Finset.sum_congr rfl fun j _ => ?_
    rw [exp2_opt]
    refine congrArg _ ?_
    split_ifs
    · rfl
    · rw [zero_div]

/-- A half none of whose keys takes part has no weight. -/
theorem dead_at {X : Nat → V8 Ideal} {h l : Nat} (hX : Reads X h l fun _ => ⊥) (hh : h < 2) {v u : Nat} (hv : v < 16) (hu : u < 4) :
    (eOf X v (nx2 (4 * h + u) l) : EReal) = 0 := by
  rw [eOf_at hX hh v u hv hu, EReal.bot_sub, Ideal.exp2_bot]

section

variable {sco : Nat → Nat → EReal} {ks : Nat → EReal} {s : Nat → ℝ} {t l : Nat} (ht : t < 8) (hl : l < 128)
  (hs : ∀ n, n < 128 * (t + 1) → sco n (128 * t + l) * ks n = ((s (keyOf n) / Real.log 2 : ℝ) : EReal))

include hl hs

theorem xv_at {p v h u : Nat} (hp : p ≤ t) (hv : v < 16) (hh : h < 2) (hu : u < 4) :
    (xv sco ks t p v (nx2 (4 * h + u) l) : EReal) = ((s (64 * (2 * p + h) + (4 * v + u)) / Real.log 2 : ℝ) : EReal) := by
  show sco (128 * p + 8 * v + (4 * h + u) % 8) (128 * t + l % 128) * ks (128 * p + 8 * v + (4 * h + u) % 8) = _
  rw [Nat.mod_eq_of_lt (show 4 * h + u < 8 by omega), Nat.mod_eq_of_lt hl, hs _ (by omega)]
  refine congrArg (fun k => ((s k / Real.log 2 : ℝ) : EReal)) ?_
  unfold keyOf
  omega

theorem xl_at {p h : Nat} (hp : p ≤ t) (hh : h < 2) :
    Reads (xl sco ks t p) h l fun j => ((s (64 * (2 * p + h) + j) / Real.log 2 : ℝ) : EReal) := fun v u hv hu => by
  show (lst masked 16 (xv sco ks t p) v) _ = _
  unfold lst
  rw [if_pos hv]
  exact xv_at hl hs hp hv hh hu

theorem xPast_at {p h : Nat} (hp : p ≤ t) (hh : h < 2) :
    Reads (xPast (xl sco ks t p)) h l fun j => opt (j < 63) (s (64 * (2 * p + h) + j) / Real.log 2) := fun v u hv hu => by
  unfold xPast opt
  have e : (xl sco ks t p v (nx2 (4 * h + u) l) : EReal) = ((s (64 * (2 * p + h) + (4 * v + u)) / Real.log 2 : ℝ) : EReal) := xl_at hl hs hp hh v u hv hu
  show _ = if 4 * v + u < 63 then ((s (64 * (2 * p + h) + (4 * v + u)) / Real.log 2 : ℝ) : EReal) else ⊥
  by_cases h15 : v = 15
  · subst h15
    rw [if_pos rfl, select_apply, lmRow_at (by omega), sel_if, e]
    by_cases h3 : u = 3
    · rw [if_pos (by omega), if_neg (by omega)]; exact masked_eq
    · rw [if_neg (by omega), if_pos (by omega)]
  · rw [if_neg h15, if_pos (by omega), e]

theorem xbl_at {h : Nat} (hh : h < 2) :
    Reads (xbl sco ks t) h l fun j => opt (64 * h + j ≤ l ∧ j < 63) (s (64 * (2 * t + h) + j) / Real.log 2) := fun v u hv hu => by
  show (lst masked 16 (fun v => addf (xl sco ks t t v) (bv v)) v) _ = _
  unfold lst opt
  rw [if_pos hv]
  show (xl sco ks t t v (nx2 (4 * h + u) l) : EReal) + bv v (nx2 (4 * h + u) l) = _
  have e : (xl sco ks t t v (nx2 (4 * h + u) l) : EReal) = ((s (64 * (2 * t + h) + (4 * v + u)) / Real.log 2 : ℝ) : EReal) := xl_at hl hs le_rfl hh v u hv hu
  show _ = if 64 * h + (4 * v + u) ≤ l ∧ 4 * v + u < 63 then ((s (64 * (2 * t + h) + (4 * v + u)) / Real.log 2 : ℝ) : EReal) else ⊥
  rw [bv_at hv (by omega) hl, e, show (4 * h + u) / 4 = h by omega, show (4 * h + u) % 4 = u by omega]
  split_ifs
  · exact add_zero (_ : EReal)
  · exact EReal.add_bot _

theorem lm_at {p h u : Nat} (hp : p ≤ t) (hh : h < 2) (hu : u < 4) (y : V8 Ideal) (hy : y = xv sco ks t p 15) :
    (landmark y (nx2 (4 * h + u) l) : EReal) = ((s (64 * (2 * p + h) + 63) / Real.log 2 : ℝ) : EReal) := by
  rw [landmark_at y hh hu, hy]
  exact xv_at hl hs hp (by omega) hh (by omega)

/-- The outer scores of a half. -/
theorem aOf_at {m : ℝ} (hm : ∀ u, u < 4 → (mxOf (xbl sco ks t) (nx2 (4 * (l / 64) + u) l) : EReal) = m) {p h u : Nat} (hp : p ≤ t) (hh : h < 2) (hu : u < 4) :
    (aOf t (xl sco ks t t) (lml sco ks t) (xbl sco ks t) p (nx2 (4 * h + u) l) : EReal) =
      opt (¬ (p = t ∧ h = 1 ∧ l < 64)) ((if p = t ∧ h = l / 64 then m * Real.log 2 else s (64 * (2 * p + h) + 63)) / Real.log 2) := by
  have h2 : Real.log 2 ≠ 0 := (Real.log_pos (by norm_num)).ne'
  unfold aOf opt
  by_cases hpt : p = t
  · subst hpt
    rw [if_pos rfl, select_apply, isOwn_at (by omega) hl, sel_if, show (4 * h + u) / 4 = h by omega]
    by_cases ho : h = l / 64
    · rw [if_pos ho, if_pos (by omega), if_pos ⟨rfl, ho⟩, mul_div_cancel_right₀ _ h2, ho]
      exact hm u hu
    · rw [if_neg ho, select_apply, isDead_at (by omega) hl, sel_if]
      by_cases hd : h = 1 ∧ l < 64
      · rw [if_pos (by omega), if_neg (by omega)]; exact masked_eq
      · rw [if_neg (by omega), if_pos (by omega), if_neg (by omega)]
        exact lm_at hl hs le_rfl hh hu _ (by unfold xl lst; rw [if_pos (by omega)])
  · rw [if_neg hpt, if_pos (by omega), if_neg (by omega)]
    exact lm_at hl hs hp hh hu _ (by unfold lml lst; rw [if_pos (by omega)])

include ht

/-- The largest outer score is a real number, the same in every sublane. -/
theorem mxA_at {m : ℝ} (hm : ∀ u, u < 4 → (mxOf (xbl sco ks t) (nx2 (4 * (l / 64) + u) l) : EReal) = m) :
    ∃ B : ℝ, ∀ k, k < 8 → (mxA t (xl sco ks t t) (lml sco ks t) (xbl sco ks t) (nx2 k l) : EReal) = B := by
  have key : ∀ h, h < 2 → ∀ u, u < 4 → foldTo maximumf (aOf t (xl sco ks t t) (lml sco ks t) (xbl sco ks t)) t (nx2 (4 * h + u) l) =
      (range (t + 1)).sup fun p => opt (¬ (p = t ∧ h = 1 ∧ l < 64)) ((if p = t ∧ h = l / 64 then m * Real.log 2 else s (64 * (2 * p + h) + 63)) / Real.log 2) := by
    intro h hh u hu
    rw [foldTo_at maximumf max (fun _ _ _ => rfl), foldTo_max _ ht]
    exact Finset.sup_congr rfl fun p hp => aOf_at hl hs hm (Nat.lt_succ_iff.1 (Finset.mem_range.1 hp)) hh hu
  obtain ⟨B0, h0⟩ := sup_real (range (t + 1)) (fun p => ¬ (p = t ∧ 0 = 1 ∧ l < 64))
    (fun p => (if p = t ∧ 0 = l / 64 then m * Real.log 2 else s (64 * (2 * p + 0) + 63)) / Real.log 2) ⟨0, by simp, by omega⟩
  have hz : ∀ k, k < 8 → mxA t (xl sco ks t t) (lml sco ks t) (xbl sco ks t) (nx2 k l) = max (B0 : EReal) _ := fun k hk =>
    roll4_at maximumf max (fun _ _ _ => rfl) max_comm _ _ _ (fun u hu => by
      have := key 0 (by omega) u hu
      rw [h0] at this
      rwa [show 4 * 0 + u = u by omega] at this) (fun u hu => key 1 (by omega) u hu) hk
  by_cases hd : ∃ p ∈ range (t + 1), ¬ (p = t ∧ 1 = 1 ∧ l < 64)
  · obtain ⟨B1, h1⟩ := sup_real (range (t + 1)) (fun p => ¬ (p = t ∧ 1 = 1 ∧ l < 64))
      (fun p => (if p = t ∧ 1 = l / 64 then m * Real.log 2 else s (64 * (2 * p + 1) + 63)) / Real.log 2) hd
    refine ⟨max B0 B1, fun k hk => ?_⟩
    rw [hz k hk, h1]
    rcases le_total B0 B1 with h | h
    · rw [max_eq_right h, max_eq_right (EReal.coe_le_coe_iff.2 h)]
    · rw [max_eq_left h, max_eq_left (EReal.coe_le_coe_iff.2 h)]
  · refine ⟨B0, fun k hk => ?_⟩
    rw [hz k hk]
    refine max_eq_left ((Finset.sup_le fun p hp => ?_ : _ ≤ (⊥ : EReal)).trans bot_le)
    have : p = t ∧ 1 = 1 ∧ l < 64 := by by_contra h; exact hd ⟨p, hp, h⟩
    unfold opt
    rw [if_neg (not_not.2 this)]

omit ht hl hs in
theorem sum_pairs (f : Nat → ℝ) (n : Nat) : ∑ p ∈ range n, f (2 * p + 0) + ∑ p ∈ range n, f (2 * p + 1) = ∑ c ∈ range (2 * n), f c := by
  induction n with
  | zero => simp
  | succ n ih =>
    rw [show 2 * (n + 1) = 2 * n + 1 + 1 by ring]
    simp only [Finset.sum_range_succ, ← ih, add_zero]
    ring

omit hs in
theorem tot_pairs : ∑ p ∈ range (t + 1), part s (128 * t + l) (2 * p + 0) + ∑ p ∈ range (t + 1), part s (128 * t + l) (2 * p + 1) = tot s (128 * t + l) := by
  rw [sum_pairs (part s (128 * t + l))]
  refine Finset.sum_subset (fun c hc => Finset.mem_range.2 ?_) fun c _ hc => ?_
  · have := Finset.mem_range.1 hc; omega
  · have := Finset.mem_range.not.1 hc
    unfold part
    rw [if_neg (by omega), if_neg (by omega)]

/-- The weight of a packed key is the weight of its key. -/
theorem weight_eq {n : Nat} (hn : n < 128 * (t + 1)) : weight sco ks t n l = ((W s (128 * t + l) (keyOf n) : ℝ) : EReal) := by
  have hr : 128 * t + l < 1024 := by omega
  have hr1 : (128 * t + l) / 64 = 2 * t + l / 64 := by omega
  have hr2 : (128 * t + l) % 64 = l % 64 := by omega
  have hl2 : l / 64 < 2 := by omega
  obtain ⟨m, hm, hme, hmt⟩ := half_at (fun j => 64 * (l / 64) + j ≤ l ∧ j < 63) (fun j => s (64 * (2 * t + l / 64) + j)) (xbl_at hl hs hl2) hl2
    ⟨0, by simp, by omega⟩
  have hown : (∑ j ∈ range 64, if 64 * (l / 64) + j ≤ l ∧ j < 63 then Real.exp (s (64 * (2 * t + l / 64) + j)) else 0) = part s (128 * t + l) (2 * t + l / 64) := by
    unfold part
    rw [if_neg (by omega), if_pos hr1.symm, hr2]
    refine Finset.sum_congr rfl fun j _ => if_congr ?_ rfl rfl
    omega
  rw [hown] at hmt
  obtain ⟨B, hB⟩ := mxA_at ht hl hs hm
  have hexp : ∀ x : ℝ, Real.exp x ≠ 0 := fun x => (Real.exp_pos x).ne'
  -- the outer exponentials
  have hg : ∀ p h u, p ≤ t → h < 2 → u < 4 → (gOf t (xl sco ks t t) (lml sco ks t) (xbl sco ks t) p (nx2 (4 * h + u) l) : EReal) =
      ((if ¬ (p = t ∧ h = 1 ∧ l < 64) then Real.exp (if p = t ∧ h = l / 64 then m * Real.log 2 else s (64 * (2 * p + h) + 63)) /
        Real.exp (B * Real.log 2) else 0 : ℝ) : EReal) := by
    intro p h u hp hh hu
    show Ideal.exp2 ((aOf t (xl sco ks t t) (lml sco ks t) (xbl sco ks t) p (nx2 (4 * h + u) l) : EReal) -
      mxA t (xl sco ks t t) (lml sco ks t) (xbl sco ks t) (nx2 (4 * h + u) l)) = _
    rw [aOf_at hl hs hm hp hh hu, hB _ (by omega), exp2_opt]
  -- their sum
  have hzp : ∀ h, h < 2 → ∀ u, u < 4 → foldTo addf (fun p => if p = t then mulf (gOf t (xl sco ks t t) (lml sco ks t) (xbl sco ks t) p)
      (select isOwn (totOf (xbl sco ks t)) one8) else gOf t (xl sco ks t t) (lml sco ks t) (xbl sco ks t) p) t (nx2 (4 * h + u) l) =
      (((∑ p ∈ range (t + 1), part s (128 * t + l) (2 * p + h)) / Real.exp (B * Real.log 2) : ℝ) : EReal) := by
    intro h hh u hu
    rw [foldTo_at addf (· + ·) (fun _ _ _ => rfl), foldTo_add _ ht, Finset.sum_div, coe_sum]
    refine Finset.sum_congr rfl fun p hp => ?_
    have hp : p ≤ t := Nat.lt_succ_iff.1 (Finset.mem_range.1 hp)
    by_cases hpt : p = t
    · subst hpt
      rw [if_pos rfl]
      show (gOf p (xl sco ks p p) (lml sco ks p) (xbl sco ks p) p (nx2 (4 * h + u) l) : EReal) *
        Scalar.select (isOwn (nx2 (4 * h + u) l)) (totOf (xbl sco ks p) (nx2 (4 * h + u) l)) (Ideal.ofBits .f32 0x3F800000#32) = _
      rw [hg p h u le_rfl hh hu, isOwn_at (by omega) hl, sel_if, show (4 * h + u) / 4 = h by omega]
      by_cases ho : h = l / 64
      · rw [if_pos ho, if_pos (by omega), if_pos ⟨rfl, ho⟩, ho, hmt u hu, ← EReal.coe_mul]
        refine congrArg _ ?_
        field_simp
      · rw [if_neg ho, one_eq, mul_one]
        refine congrArg _ ?_
        unfold part
        by_cases hd : h = 1 ∧ l < 64
        · rw [if_neg (by omega), if_neg (by omega), if_neg (by omega), zero_div]
        · rw [if_pos (by omega), if_neg (by omega), if_pos (by omega)]
    · rw [if_neg hpt, hg p h u hp hh hu, if_pos (by omega), if_neg (by omega)]
      unfold part
      rw [if_pos (by omega)]
  have hz : ∀ k, k < 8 → (zOf t (xl sco ks t t) (lml sco ks t) (xbl sco ks t) (nx2 k l) : EReal) =
      ((tot s (128 * t + l) / Real.exp (B * Real.log 2) : ℝ) : EReal) := fun k hk => by
    refine (roll4_at addf (· + ·) (fun _ _ _ => rfl) add_comm _ _ _ (fun u hu => by
      have := hzp 0 (by omega) u hu
      rwa [show 4 * 0 + u = u by omega] at this) (fun u hu => hzp 1 (by omega) u hu) hk).trans ?_
    show (_ : EReal) + _ = _
    rw [← EReal.coe_add, ← add_div, tot_pairs ht hl]
  have htot : tot s (128 * t + l) ≠ 0 := (tot_pos s _ hr).ne'
  -- the key
  obtain ⟨p, v, h, u, hp, hv, hh, hu, rfl⟩ : ∃ p v h u, p ≤ t ∧ v < 16 ∧ h < 2 ∧ u < 4 ∧ n = 128 * p + 8 * v + (4 * h + u) :=
    ⟨n / 128, n % 128 / 8, n % 8 / 4, n % 4, by omega, by omega, by omega, by omega, by omega⟩
  have hk : keyOf (128 * p + 8 * v + (4 * h + u)) = 64 * (2 * p + h) + (4 * v + u) := by unfold keyOf; omega
  have hk1 : (64 * (2 * p + h) + (4 * v + u)) / 64 = 2 * p + h := by omega
  have hk2 : (64 * (2 * p + h) + (4 * v + u)) % 64 = 4 * v + u := by omega
  -- a key of an earlier block
  have past : ∀ (X : Nat → V8 Ideal), (Reads X h l fun j => opt (j < 63) (s (64 * (2 * p + h) + j) / Real.log 2)) →
      ¬ (p = t ∧ h = 1 ∧ l < 64) → ¬ (p = t ∧ h = l / 64) → (eOf X v (nx2 (4 * h + u) l) : EReal) *
        Ideal.div (gOf t (xl sco ks t t) (lml sco ks t) (xbl sco ks t) p (nx2 (4 * h + u) l))
          (zOf t (xl sco ks t t) (lml sco ks t) (xbl sco ks t) (nx2 (4 * h + u) l) * totOf X (nx2 (4 * h + u) l)) =
      ((W s (128 * t + l) (64 * (2 * p + h) + (4 * v + u)) : ℝ) : EReal) := by
    intro X hX hd ho
    obtain ⟨m', _, he, hT⟩ := half_at (fun j => j < 63) (fun j => s (64 * (2 * p + h) + j)) hX hh ⟨0, by simp, by omega⟩
    have hD : den s (2 * p + h) ≠ 0 := (den_pos s _).ne'
    change ∀ u, u < 4 → (totOf X (nx2 (4 * h + u) l) : EReal) = ((den s (2 * p + h) / Real.exp (m' * Real.log 2) : ℝ) : EReal) at hT
    rw [he v u hv hu, hT u hu, hg p h u hp hh hu, hz _ (by omega), if_pos hd, if_neg ho, ← EReal.coe_mul,
      Ideal.div_coe (mul_ne_zero (div_ne_zero htot (hexp _)) (div_ne_zero hD (hexp _))), ← EReal.coe_mul, ← EReal.coe_mul]
    refine congrArg _ ?_
    unfold W
    rw [hk1, hk2, hr1, hr2, if_neg (show ¬ (2 * p + h = 2 * t + l / 64 ∧ 4 * v + u ≤ l % 64 ∧ 4 * v + u < 63) by omega)]
    by_cases h63 : 4 * v + u < 63
    · rw [if_pos h63, if_pos (show 2 * p + h < 2 * t + l / 64 ∧ 4 * v + u < 63 by omega)]
      have := hexp (m' * Real.log 2)
      have := hexp (B * Real.log 2)
      field_simp
    · rw [if_neg h63, if_neg (show ¬ (2 * p + h < 2 * t + l / 64 ∧ 4 * v + u < 63) by omega), zero_mul]
  unfold weight
  rw [hk, show (128 * p + 8 * v + (4 * h + u)) / 128 = p by omega, show (128 * p + 8 * v + (4 * h + u) - 128 * p) / 8 = v by omega,
    show (128 * p + 8 * v + (4 * h + u)) % 8 = 4 * h + u by omega]
  by_cases hpt : p = t
  · rw [if_pos hpt]
    subst hpt
    by_cases hd : h = 1 ∧ l < 64
    · have hX : Reads (xbl sco ks p) h l fun _ => ⊥ := fun v u hv hu => by
        rw [xbl_at hl hs hh v u hv hu]
        exact if_neg (by omega)
      rw [dead_at hX hh hv hu, zero_mul]
      unfold W
      rw [hk1, hk2, hr1, hr2, if_neg (by omega), if_neg (by omega)]; rfl
    · show (eOf (xbl sco ks p) v (nx2 (4 * h + u) l) : EReal) *
        Ideal.div (gOf p (xl sco ks p p) (lml sco ks p) (xbl sco ks p) p (nx2 (4 * h + u) l))
          (zOf p (xl sco ks p p) (lml sco ks p) (xbl sco ks p) (nx2 (4 * h + u) l) *
            Scalar.select (isOwn (nx2 (4 * h + u) l)) (Ideal.ofBits .f32 0x3F800000#32 : EReal) (totOf (xbl sco ks p) (nx2 (4 * h + u) l))) = _
      rw [isOwn_at (by omega) hl, sel_if, show (4 * h + u) / 4 = h by omega]
      by_cases ho : h = l / 64
      · rw [if_pos ho, one_eq, mul_one, hg p h u le_rfl hh hu, hz _ (by omega), if_pos (by omega), if_pos ⟨rfl, ho⟩]
        subst ho
        rw [hme v u hv hu, Ideal.div_coe (div_ne_zero htot (hexp _)), ← EReal.coe_mul, ← EReal.coe_mul]
        refine congrArg _ ?_
        unfold W
        rw [hk1, hk2, hr1, hr2]
        by_cases hc : 4 * v + u ≤ l % 64 ∧ 4 * v + u < 63
        · rw [if_pos (by omega), if_pos ⟨rfl, hc⟩]
          have := hexp (m * Real.log 2)
          have := hexp (B * Real.log 2)
          field_simp
        · rw [if_neg (by omega), if_neg (by omega), if_neg (by omega), zero_mul]
      · rw [if_neg ho]
        refine past (xbl sco ks p) (fun v u hv hu => ?_) (by omega) (by omega)
        rw [xbl_at hl hs hh v u hv hu]
        unfold opt
        exact if_congr (by omega) rfl rfl
  · rw [if_neg hpt]
    exact past _ (xPast_at hl hs hp hh) (by omega) (by omega)

end

end Cert.KernelIdeal.Struct
-- ==== Proof.Sums.lean ====
module

public import proofs.«01_k».proof.Proof.Weights

@[expose] public section

set_option maxRecDepth 16384

noncomputable section

/-! The kernel's sum over packed keys as a sum over the keys. -/

namespace Cert.KernelIdeal.Struct

open Idealize.ShloMosaic hiding ix1 ix2 ix3 ix4 ix5 ix6
open Idealize.ShloMosaic.ValueIdx
open Finset Cert.Soft

/-- The packed row that holds key `k`. -/
def rowOf (k : Nat) : Nat := 128 * (k / 128) + 8 * (k % 64 / 4) + 4 * (k % 128 / 64) + k % 4

/-- The key of a packed row, by digits. -/
theorem keyOf_digits {a b c d : Nat} (hb : b < 16) (hc : c < 2) (hd : d < 4) : keyOf (128 * a + 8 * b + 4 * c + d) = 128 * a + 64 * c + 4 * b + d := by
  unfold keyOf
  have h1 : (128 * a + 8 * b + 4 * c + d) / 128 = a := by omega
  have h2 : (128 * a + 8 * b + 4 * c + d) % 8 / 4 = c := by omega
  have h3 : (128 * a + 8 * b + 4 * c + d) % 128 / 8 = b := by omega
  have h4 : (128 * a + 8 * b + 4 * c + d) % 4 = d := by omega
  rw [h1, h2, h3, h4]
/-- The packed row of a key, by digits. -/
theorem rowOf_digits {a b c d : Nat} (hb : b < 16) (hc : c < 2) (hd : d < 4) : rowOf (128 * a + 64 * c + 4 * b + d) = 128 * a + 8 * b + 4 * c + d := by
  unfold rowOf
  have h1 : (128 * a + 64 * c + 4 * b + d) / 128 = a := by omega
  have h2 : (128 * a + 64 * c + 4 * b + d) % 64 / 4 = b := by omega
  have h3 : (128 * a + 64 * c + 4 * b + d) % 128 / 64 = c := by omega
  have h4 : (128 * a + 64 * c + 4 * b + d) % 4 = d := by omega
  rw [h1, h2, h3, h4]
/-- The key of the row that holds a key is that key. -/
theorem keyOf_rowOf (k : Nat) : keyOf (rowOf k) = k := by
  unfold rowOf
  rw [keyOf_digits (by omega) (by omega) (by omega)]
  omega
/-- The row that holds a row's key is that row. -/
theorem rowOf_keyOf (n : Nat) : rowOf (keyOf n) = n := by
  unfold keyOf
  rw [rowOf_digits (by omega) (by omega) (by omega)]
  omega

/-- Keys of later blocks have no weight. -/
theorem W_later (s : Nat → ℝ) {r k : Nat} (h : r / 128 < k / 128) : W s r k = 0 := by
  unfold W
  rw [if_neg (show ¬ (k / 64 = r / 64 ∧ k % 64 ≤ r % 64 ∧ k % 64 < 63) by omega), if_neg (show ¬ (k / 64 < r / 64 ∧ k % 64 < 63) by omega)]

/-- A sum over packed rows is a sum over keys. -/
theorem sum_keyOf (g : Nat → EReal) : ∑ n ∈ range 1024, g (keyOf n) = ∑ k ∈ range 1024, g k :=
  Finset.sum_nbij' keyOf rowOf (fun n hn => Finset.mem_range.2 (keyOf_lt (N := 8) (Finset.mem_range.1 hn)))
    (fun k hk => Finset.mem_range.2 (by have := Finset.mem_range.1 hk; unfold rowOf; omega))
    (fun n _ => rowOf_keyOf n) (fun k _ => keyOf_rowOf k) (fun n _ => rfl)

/-- The result of the kernel's tile arithmetic: the weighted sum of the values over all keys. -/
theorem outOf_eq {sco vc : Nat → Nat → EReal} {ks vs vv vss : Nat → EReal} {s : Nat → ℝ} {r d : Nat} (hr : r < 1024)
    (hs : ∀ n, n < 1024 → sco n r * ks n = ((s (keyOf n) / Real.log 2 : ℝ) : EReal)) (hvc : ∀ n, vc n d = vv (keyOf n)) (hvs : ∀ n, vs n = vss (keyOf n)) :
    outOf sco ks vs vc r d = ∑ k : Fin 1024, vv k.val * (((W s r k.val : ℝ) : EReal) * vss k.val) := by
  have hr' : 128 * (r / 128) + r % 128 = r := by omega
  have hterm : ∀ n, vc n d * wOf sco ks vs r n = vv (keyOf n) * (((W s r (keyOf n) : ℝ) : EReal) * vss (keyOf n)) := by
    intro n
    rw [hvc]
    unfold wOf
    split_ifs with h
    · have hw := weight_eq (sco := sco) (ks := ks) (s := s) (t := r / 128) (l := r % 128) (by omega) (by omega) (fun n hn => by
        rw [hr']; exact hs n (by omega)) (n := n) (by omega)
      rw [hr'] at hw
      rw [hw, hvs]
    · rw [W_later s (show r / 128 < keyOf n / 128 by unfold keyOf; omega), EReal.coe_zero, zero_mul]
  unfold outOf
  rw [zero_add, Finset.sum_congr rfl fun (n : Fin (256 * (r / 256 + 1))) _ => hterm n.val,
    Fin.sum_univ_eq_sum_range (fun n => vv (keyOf n) * (((W s r (keyOf n) : ℝ) : EReal) * vss (keyOf n))),
    Fin.sum_univ_eq_sum_range (fun k => vv k * (((W s r k : ℝ) : EReal) * vss k)), ← sum_keyOf]
  refine Finset.sum_subset (Finset.range_subset_range.2 (by omega)) fun n _ hn => ?_
  have hn' := Finset.mem_range.not.1 hn
  rw [W_later s (show r / 128 < keyOf n / 128 by unfold keyOf; omega), EReal.coe_zero, zero_mul, mul_zero]

end Cert.KernelIdeal.Struct
-- ==== Proof.Eqn.lean ====
module

public import proofs.«01_k».proof.KernelIdeal
public import Idealize.ShloMosaic.Lib.Tactic
public import Idealize.ShloMosaic.Lib.VecWindow
public import proofs.«01_k».proof.Proof.Struct

@[expose] public section

set_option maxRecDepth 16384
set_option synthInstance.maxSize 4096

noncomputable section

namespace Cert.KernelIdeal.Struct

open Idealize.ShloMosaic Idealize.SL.Sem
open Idealize.ShloMosaic.RefSig (ofTc tcTables tileCredit tileCredit_eq_zero tileCredit_pos)

variable {F : FTy → Type} [FloatOps F] [Named F]
variable [Facts]

/-- The kernel's buffers. -/
def mems (arg3 : Memref sig .tc .vmem S1x1x1024x128 .fp8e4m3) (arg4 : Memref sig .tc .vmem S1x1x1024x128 .fp8e4m3) (arg5 : Memref sig .tc .vmem S1x1x1024x128 .fp8e4m3) (arg6 : Memref sig .tc .vmem S12x2x1024 .f32) (arg7 : Memref sig .tc .vmem S12x2x1024 .f32) (arg8 : Memref sig .tc .vmem S1x1024x128 .bf16) (arg9 : Memref sig .tc .vmem S128x2x4x128 .fp8e4m3) (arg10 : Memref sig .tc .vmem S128x2x4x128 .fp8e4m3) (arg11 : Memref sig .tc .vmem S128x1024 .bf16) (arg12 : Memref sig .tc .vmem S1024x128 .f32) (arg13 : Memref sig .tc .vmem S1024x128 .f32) (arg14 : Memref sig .tc .vmem S128x128 .f32) (arg15 : Memref sig .tc .vmem S4x1024x256 .f32) (arg16 : Memref sig .tc .vmem S4x1024x256 .bf16) : Mems
  | .q => arg3 | .code false => arg4 | .code true => arg5 | .scale false => arg6 | .scale true => arg7 | .o => arg8
  | .pk false => arg9 | .pk true => arg10 | .vt => arg11 | .sp false => arg12 | .sp true => arg13 | .bias => arg14
  | .s => arg15 | .w => arg16

theorem whole_mems {arg3 arg4 arg5 arg6 arg7 arg8 arg9 arg10 arg11 arg12 arg13 arg14 arg15 arg16}
    (harg3 : arg3.IsWhole) (harg4 : arg4.IsWhole) (harg5 : arg5.IsWhole) (harg6 : arg6.IsWhole) (harg7 : arg7.IsWhole) (harg8 : arg8.IsWhole)
    (harg9 : arg9.IsWhole) (harg10 : arg10.IsWhole) (harg11 : arg11.IsWhole) (harg12 : arg12.IsWhole) (harg13 : arg13.IsWhole) (harg14 : arg14.IsWhole)
    (harg15 : arg15.IsWhole) (harg16 : arg16.IsWhole) :
    ∀ a, (mems arg3 arg4 arg5 arg6 arg7 arg8 arg9 arg10 arg11 arg12 arg13 arg14 arg15 arg16 a).IsWhole
  | .q => harg3 | .code false => harg4 | .code true => harg5 | .scale false => harg6 | .scale true => harg7 | .o => harg8
  | .pk false => harg9 | .pk true => harg10 | .vt => harg11 | .sp false => harg12 | .sp true => harg13 | .bias => harg14
  | .s => harg15 | .w => harg16

/-- The kernel's buffers, whole. -/
def args (arg2 : Memref sig .tc .smem S2x12 .f32) (harg2 : arg2.IsWhole) (arg3 : Memref sig .tc .vmem S1x1x1024x128 .fp8e4m3) (harg3 : arg3.IsWhole) (arg4 : Memref sig .tc .vmem S1x1x1024x128 .fp8e4m3) (harg4 : arg4.IsWhole) (arg5 : Memref sig .tc .vmem S1x1x1024x128 .fp8e4m3) (harg5 : arg5.IsWhole) (arg6 : Memref sig .tc .vmem S12x2x1024 .f32) (harg6 : arg6.IsWhole) (arg7 : Memref sig .tc .vmem S12x2x1024 .f32) (harg7 : arg7.IsWhole) (arg8 : Memref sig .tc .vmem S1x1024x128 .bf16) (harg8 : arg8.IsWhole) (arg9 : Memref sig .tc .vmem S128x2x4x128 .fp8e4m3) (harg9 : arg9.IsWhole) (arg10 : Memref sig .tc .vmem S128x2x4x128 .fp8e4m3) (harg10 : arg10.IsWhole) (arg11 : Memref sig .tc .vmem S128x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S128x128 .f32) (harg14 : arg14.IsWhole) (arg15 : Memref sig .tc .vmem S4x1024x256 .f32) (harg15 : arg15.IsWhole) (arg16 : Memref sig .tc .vmem S4x1024x256 .bf16) (harg16 : arg16.IsWhole) : Args where
  mem := mems arg3 arg4 arg5 arg6 arg7 arg8 arg9 arg10 arg11 arg12 arg13 arg14 arg15 arg16
  whole := whole_mems harg3 harg4 harg5 harg6 harg7 harg8 harg9 harg10 harg11 harg12 harg13 harg14 harg15 harg16
  scalar := arg2

/-- The grid point is the first. -/
abbrev First (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- Past the first grid point the kernel's text is `body`. -/
theorem kernel_later (i : grid0.Coords) (arg2 : Memref sig .tc .smem S2x12 .f32) (harg2 : arg2.IsWhole) (arg3 : Memref sig .tc .vmem S1x1x1024x128 .fp8e4m3) (harg3 : arg3.IsWhole) (arg4 : Memref sig .tc .vmem S1x1x1024x128 .fp8e4m3) (harg4 : arg4.IsWhole) (arg5 : Memref sig .tc .vmem S1x1x1024x128 .fp8e4m3) (harg5 : arg5.IsWhole) (arg6 : Memref sig .tc .vmem S12x2x1024 .f32) (harg6 : arg6.IsWhole) (arg7 : Memref sig .tc .vmem S12x2x1024 .f32) (harg7 : arg7.IsWhole) (arg8 : Memref sig .tc .vmem S1x1024x128 .bf16) (harg8 : arg8.IsWhole) (arg9 : Memref sig .tc .vmem S128x2x4x128 .fp8e4m3) (harg9 : arg9.IsWhole) (arg10 : Memref sig .tc .vmem S128x2x4x128 .fp8e4m3) (harg10 : arg10.IsWhole) (arg11 : Memref sig .tc .vmem S128x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S128x128 .f32) (harg14 : arg14.IsWhole) (arg15 : Memref sig .tc .vmem S4x1024x256 .f32) (harg15 : arg15.IsWhole) (arg16 : Memref sig .tc .vmem S4x1024x256 .bf16) (harg16 : arg16.IsWhole) (hc : ¬ First i) :
    cc0_landmark_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      ((body (args arg2 harg2 arg3 harg3 arg4 harg4 arg5 harg5 arg6 harg6 arg7 harg7 arg8 harg8 arg9 harg9 arg10 harg10 arg11 harg11 arg12 harg12 arg13 harg13 arg14 harg14 arg15 harg15 arg16 harg16) i).prog _ arg2) := by
  unfold cc0_landmark_attention k0_part445 k0_part438 k0_part2
  dsimp only
  rw [dif_neg hc]
  sl_kernel_rfl

/-- At the first grid point the kernel's text is `init`, then `body`. -/
theorem kernel_first (i : grid0.Coords) (arg2 : Memref sig .tc .smem S2x12 .f32) (harg2 : arg2.IsWhole) (arg3 : Memref sig .tc .vmem S1x1x1024x128 .fp8e4m3) (harg3 : arg3.IsWhole) (arg4 : Memref sig .tc .vmem S1x1x1024x128 .fp8e4m3) (harg4 : arg4.IsWhole) (arg5 : Memref sig .tc .vmem S1x1x1024x128 .fp8e4m3) (harg5 : arg5.IsWhole) (arg6 : Memref sig .tc .vmem S12x2x1024 .f32) (harg6 : arg6.IsWhole) (arg7 : Memref sig .tc .vmem S12x2x1024 .f32) (harg7 : arg7.IsWhole) (arg8 : Memref sig .tc .vmem S1x1024x128 .bf16) (harg8 : arg8.IsWhole) (arg9 : Memref sig .tc .vmem S128x2x4x128 .fp8e4m3) (harg9 : arg9.IsWhole) (arg10 : Memref sig .tc .vmem S128x2x4x128 .fp8e4m3) (harg10 : arg10.IsWhole) (arg11 : Memref sig .tc .vmem S128x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S128x128 .f32) (harg14 : arg14.IsWhole) (arg15 : Memref sig .tc .vmem S4x1024x256 .f32) (harg15 : arg15.IsWhole) (arg16 : Memref sig .tc .vmem S4x1024x256 .bf16) (harg16 : arg16.IsWhole) (hc : First i) :
    cc0_landmark_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      ((init (args arg2 harg2 arg3 harg3 arg4 harg4 arg5 harg5 arg6 harg6 arg7 harg7 arg8 harg8 arg9 harg9 arg10 harg10 arg11 harg11 arg12 harg12 arg13 harg13 arg14 harg14 arg15 harg15 arg16 harg16) (body (args arg2 harg2 arg3 harg3 arg4 harg4 arg5 harg5 arg6 harg6 arg7 harg7 arg8 harg8 arg9 harg9 arg10 harg10 arg11 harg11 arg12 harg12 arg13 harg13 arg14 harg14 arg15 harg15 arg16 harg16) i)).prog _ arg2) := by
  unfold cc0_landmark_attention k0_part445 k0_part438 k0_part2
  dsimp only
  rw [dif_pos hc]
  sl_kernel_rfl

end Cert.KernelIdeal.Struct
-- ==== Proof.Point.lean ====
module

public import proofs.«01_k».proof.Proof.Eqn
public import proofs.«01_k».proof.Proof.Blocks
public import proofs.«01_k».proof.Proof.Gen.KernelIdeal.Frame.Runs

@[expose] public section

set_option maxRecDepth 16384
set_option synthInstance.maxSize 4096

noncomputable section

namespace Cert.KernelIdeal.Struct

open Idealize.ShloMosaic hiding ix1 ix2 ix3 ix4 ix5 ix6
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A state from the contents of the fourteen buffers. -/
def mkSt (q kc vc : S1x1x1024x128.Idx → Elt Ideal .fp8e4m3) (kr vr : S12x2x1024.Idx → Elt Ideal .f32) (o : S1x1024x128.Idx → Elt Ideal .bf16)
    (p0 p1 : S128x2x4x128.Idx → Elt Ideal .fp8e4m3) (vt : S128x1024.Idx → Elt Ideal .bf16) (s0 s1 : S1024x128.Idx → Elt Ideal .f32)
    (b : S128x128.Idx → Elt Ideal .f32) (s : S4x1024x256.Idx → Elt Ideal .f32) (w : S4x1024x256.Idx → Elt Ideal .bf16) : St Ideal
  | .q => q | .code false => kc | .code true => vc | .scale false => kr | .scale true => vr | .o => o
  | .pk false => p0 | .pk true => p1 | .vt => vt | .sp false => s0 | .sp true => s1 | .bias => b | .s => s | .w => w

/-- The buffers owned, one by one. -/
theorem Own_mems (c : Dev nD) (X : St Ideal) (arg3 : Memref sig .tc .vmem S1x1x1024x128 .fp8e4m3) (arg4 : Memref sig .tc .vmem S1x1x1024x128 .fp8e4m3) (arg5 : Memref sig .tc .vmem S1x1x1024x128 .fp8e4m3) (arg6 : Memref sig .tc .vmem S12x2x1024 .f32) (arg7 : Memref sig .tc .vmem S12x2x1024 .f32) (arg8 : Memref sig .tc .vmem S1x1024x128 .bf16) (arg9 : Memref sig .tc .vmem S128x2x4x128 .fp8e4m3) (arg10 : Memref sig .tc .vmem S128x2x4x128 .fp8e4m3) (arg11 : Memref sig .tc .vmem S128x1024 .bf16) (arg12 : Memref sig .tc .vmem S1024x128 .f32) (arg13 : Memref sig .tc .vmem S1024x128 .f32) (arg14 : Memref sig .tc .vmem S128x128 .f32) (arg15 : Memref sig .tc .vmem S4x1024x256 .f32) (arg16 : Memref sig .tc .vmem S4x1024x256 .bf16) :
    (Own c (mems arg3 arg4 arg5 arg6 arg7 arg8 arg9 arg10 arg11 arg12 arg13 arg14 arg15 arg16) X : sProp (MT nD τ sig Unit (Elt Ideal) ℕ (UR sig nD τ) ℕ)) = iprop(owns (c : Thread nD τ) arg3 fullShare (X .q) ∗ owns (c : Thread nD τ) arg4 fullShare (X (.code false)) ∗ owns (c : Thread nD τ) arg5 fullShare (X (.code true)) ∗ owns (c : Thread nD τ) arg6 fullShare (X (.scale false)) ∗ owns (c : Thread nD τ) arg7 fullShare (X (.scale true)) ∗ owns (c : Thread nD τ) arg8 fullShare (X .o) ∗ owns (c : Thread nD τ) arg9 fullShare (X (.pk false)) ∗ owns (c : Thread nD τ) arg10 fullShare (X (.pk true)) ∗ owns (c : Thread nD τ) arg11 fullShare (X .vt) ∗ owns (c : Thread nD τ) arg12 fullShare (X (.sp false)) ∗ owns (c : Thread nD τ) arg13 fullShare (X (.sp true)) ∗ owns (c : Thread nD τ) arg14 fullShare (X .bias) ∗ owns (c : Thread nD τ) arg15 fullShare (X .s) ∗ owns (c : Thread nD τ) arg16 fullShare (X .w)) :=
  bigSep_univ_eq_bigSepL slots rfl (by decide) _

/-- The weights no tile writes are zero. -/
def Wz (w : S4x1024x256.Idx → Elt Ideal .bf16) : Prop :=
  ∀ (T : Fin 4) (n : Fin 1024) (j : Fin 256), n.val / 128 = 2 * T.val + 1 → j.val < 128 → (w (ix3 T n j) : EReal) = 0

/-- The block of results a grid point leaves. -/
def res (sc : S2x12.Idx → Elt Ideal .f32) (i : grid0.Coords) (q kc vc : S1x1x1024x128.Idx → Elt Ideal .fp8e4m3) (kr vr : S12x2x1024.Idx → Elt Ideal .f32) :
    S1x1024x128.Idx → Elt Ideal .bf16 := fun y => point sc i q kc vc kr vr (y 1).val (y 2).val

theorem res_of (sc i) (f : S1x1024x128.Idx → Elt Ideal .bf16) (q kc vc kr vr) (h : ∀ (r : Fin 1024) (d : Fin 128), (f (ix3 (0 : Fin 1) r d) : EReal) = point sc i q kc vc kr vr r.val d.val) :
    f = res sc i q kc vc kr vr := funext fun y => by
  have e : y = ix3 (0 : Fin 1) (y 1) (y 2) := funext fun | 0 => Fin.ext (by have := (y 0).isLt; change (y 0).val < 1 at this; show (y 0).val = 0; omega) | 1 => rfl | 2 => rfl
  rw [e]; exact h _ _

/-- What a command list leaves at a grid point: the bias and the zero weights in place, the inputs unchanged, the block of results. -/
structure Leaves {M : Mems} (sc : S2x12.Idx → Elt Ideal .f32) (i : grid0.Coords) (X : St Ideal) (C : Cmd Ideal M) : Prop where
  kept : Kept (C.run M sc X)
  same : ∀ b, b = .q ∨ (∃ c, b = .code c) ∨ (∃ c, b = .scale c) → C.run M sc X b = X b
  out : C.run M sc X .o = res sc i (X .q) (X (.code false)) (X (.code true)) (X (.scale false)) (X (.scale true))

theorem later_run (A : Args) (sc : S2x12.Idx → Elt Ideal .f32) (i : grid0.Coords) (X : St Ideal) (hX : Kept X) :
    Leaves sc i X (body (F := Ideal) A i) :=
  have h := body_run A sc i X hX
  ⟨h.1, h.2.1, res_of _ _ _ _ _ _ _ _ h.2.2⟩

theorem first_run (A : Args) (sc : S2x12.Idx → Elt Ideal .f32) (i : grid0.Coords) (X : St Ideal) :
    Leaves sc i X (init (F := Ideal) A (body A i)) := by
  obtain ⟨Y, hY, hYX, e⟩ := init_run A sc (body A i) X
  have h := later_run A sc i Y hY
  generalize (init (F := Ideal) A (body A i)) = C at e ⊢
  generalize body (F := Ideal) A i = D at e h
  have e1 := hYX .q (by simp) (by simp)
  have e2 := hYX (.code false) (by simp) (by simp)
  have e3 := hYX (.code true) (by simp) (by simp)
  have e4 := hYX (.scale false) (by simp) (by simp)
  have e5 := hYX (.scale true) (by simp) (by simp)
  refine ⟨by rw [e]; exact h.kept, fun b hb => ?_, ?_⟩
  · rw [e]
    refine (h.same b hb).trans (hYX b ?_ ?_)
    · rintro rfl; simp at hb
    · rintro rfl; simp at hb
  · rw [e, h.out, e1, e2, e3, e4, e5]

/-- The kernel at a grid point: what it leaves in the buffers, the bias and the zero weights in place beforehand or the
    point the first. -/
theorem point_run (i : grid0.Coords) (arg2 : Memref sig .tc .smem S2x12 .f32) (harg2 : arg2.IsWhole) (arg3 : Memref sig .tc .vmem S1x1x1024x128 .fp8e4m3) (harg3 : arg3.IsWhole) (arg4 : Memref sig .tc .vmem S1x1x1024x128 .fp8e4m3) (harg4 : arg4.IsWhole) (arg5 : Memref sig .tc .vmem S1x1x1024x128 .fp8e4m3) (harg5 : arg5.IsWhole) (arg6 : Memref sig .tc .vmem S12x2x1024 .f32) (harg6 : arg6.IsWhole) (arg7 : Memref sig .tc .vmem S12x2x1024 .f32) (harg7 : arg7.IsWhole) (arg8 : Memref sig .tc .vmem S1x1024x128 .bf16) (harg8 : arg8.IsWhole) (arg9 : Memref sig .tc .vmem S128x2x4x128 .fp8e4m3) (harg9 : arg9.IsWhole) (arg10 : Memref sig .tc .vmem S128x2x4x128 .fp8e4m3) (harg10 : arg10.IsWhole) (arg11 : Memref sig .tc .vmem S128x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S128x128 .f32) (harg14 : arg14.IsWhole) (arg15 : Memref sig .tc .vmem S4x1024x256 .f32) (harg15 : arg15.IsWhole) (arg16 : Memref sig .tc .vmem S4x1024x256 .bf16) (harg16 : arg16.IsWhole) {P : Prop} (hc : First i ↔ P) (X : St Ideal) (hX : ¬ P → Kept X) (sc : S2x12.Idx → Elt Ideal .f32) :
    ∃ C : Cmd Ideal (mems arg3 arg4 arg5 arg6 arg7 arg8 arg9 arg10 arg11 arg12 arg13 arg14 arg15 arg16), cc0_landmark_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 = C.prog _ arg2 ∧ Leaves sc i X C := by
  by_cases hp : P
  · exact ⟨_, kernel_first i arg2 harg2 arg3 harg3 arg4 harg4 arg5 harg5 arg6 harg6 arg7 harg7 arg8 harg8 arg9 harg9 arg10 harg10 arg11 harg11 arg12 harg12 arg13 harg13 arg14 harg14 arg15 harg15 arg16 harg16 (hc.mpr hp), first_run (args arg2 harg2 arg3 harg3 arg4 harg4 arg5 harg5 arg6 harg6 arg7 harg7 arg8 harg8 arg9 harg9 arg10 harg10 arg11 harg11 arg12 harg12 arg13 harg13 arg14 harg14 arg15 harg15 arg16 harg16) sc i X⟩
  · exact ⟨_, kernel_later i arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => hp (hc.mp h)), later_run (args arg2 harg2 arg3 harg3 arg4 harg4 arg5 harg5 arg6 harg6 arg7 harg7 arg8 harg8 arg9 harg9 arg10 harg10 arg11 harg11 arg12 harg12 arg13 harg13 arg14 harg14 arg15 harg15 arg16 harg16) sc i X (hX hp)⟩

/-- The same in the machine's terms. -/
theorem point_triple (c : Dev nD) (i : grid0.Coords) (arg2 : Memref sig .tc .smem S2x12 .f32) (harg2 : arg2.IsWhole) (arg3 : Memref sig .tc .vmem S1x1x1024x128 .fp8e4m3) (harg3 : arg3.IsWhole) (arg4 : Memref sig .tc .vmem S1x1x1024x128 .fp8e4m3) (harg4 : arg4.IsWhole) (arg5 : Memref sig .tc .vmem S1x1x1024x128 .fp8e4m3) (harg5 : arg5.IsWhole) (arg6 : Memref sig .tc .vmem S12x2x1024 .f32) (harg6 : arg6.IsWhole) (arg7 : Memref sig .tc .vmem S12x2x1024 .f32) (harg7 : arg7.IsWhole) (arg8 : Memref sig .tc .vmem S1x1024x128 .bf16) (harg8 : arg8.IsWhole) (arg9 : Memref sig .tc .vmem S128x2x4x128 .fp8e4m3) (harg9 : arg9.IsWhole) (arg10 : Memref sig .tc .vmem S128x2x4x128 .fp8e4m3) (harg10 : arg10.IsWhole) (arg11 : Memref sig .tc .vmem S128x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S128x128 .f32) (harg14 : arg14.IsWhole) (arg15 : Memref sig .tc .vmem S4x1024x256 .f32) (harg15 : arg15.IsWhole) (arg16 : Memref sig .tc .vmem S4x1024x256 .bf16) (harg16 : arg16.IsWhole) {P : Prop} (hc : First i ↔ P) (sc : S2x12.Idx → Elt Ideal .f32) (X : St Ideal) (hX : ¬ P → Kept X) (K : PUnit → sProp (MT nD τ sig Unit (Elt Ideal) ℕ (UR sig nD τ) ℕ)) :
    iprop(owns (c : Thread nD τ) arg2 fullShare sc ∗ owns (c : Thread nD τ) arg3 fullShare (X .q) ∗ owns (c : Thread nD τ) arg4 fullShare (X (.code false)) ∗ owns (c : Thread nD τ) arg5 fullShare (X (.code true)) ∗ owns (c : Thread nD τ) arg6 fullShare (X (.scale false)) ∗ owns (c : Thread nD τ) arg7 fullShare (X (.scale true)) ∗ owns (c : Thread nD τ) arg8 fullShare (X .o) ∗ owns (c : Thread nD τ) arg9 fullShare (X (.pk false)) ∗ owns (c : Thread nD τ) arg10 fullShare (X (.pk true)) ∗ owns (c : Thread nD τ) arg11 fullShare (X .vt) ∗ owns (c : Thread nD τ) arg12 fullShare (X (.sp false)) ∗ owns (c : Thread nD τ) arg13 fullShare (X (.sp true)) ∗ owns (c : Thread nD τ) arg14 fullShare (X .bias) ∗ owns (c : Thread nD τ) arg15 fullShare (X .s) ∗ owns (c : Thread nD τ) arg16 fullShare (X .w) ∗
      (iprop(owns (c : Thread nD τ) arg2 fullShare sc ∗ owns (c : Thread nD τ) arg3 fullShare (X .q) ∗ owns (c : Thread nD τ) arg4 fullShare (X (.code false)) ∗ owns (c : Thread nD τ) arg5 fullShare (X (.code true)) ∗ owns (c : Thread nD τ) arg6 fullShare (X (.scale false)) ∗ owns (c : Thread nD τ) arg7 fullShare (X (.scale true)) ∗ owns (c : Thread nD τ) arg8 fullShare (res sc i (X .q) (X (.code false)) (X (.code true)) (X (.scale false)) (X (.scale true))) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, ⌜∀ a b : Fin 128, d (ix2 a b) = biasv (F := Ideal) (ix2 a b)⌝ ∗ owns (c : Thread nD τ) arg14 fullShare d) ∗ (∃ d, owns (c : Thread nD τ) arg15 fullShare d) ∗ (∃ d, ⌜Wz d⌝ ∗ owns (c : Thread nD τ) arg16 fullShare d)) -∗ K ⟨⟩))
    ⊢ wp frame (wpE (defs₀ (F := Ideal)) Variants.none c none) Set.univ (cc0_landmark_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨C, e, hk, hin, ho⟩ := point_run i arg2 harg2 arg3 harg3 arg4 harg4 arg5 harg5 arg6 harg6 arg7 harg7 arg8 harg8 arg9 harg9 arg10 harg10 arg11 harg11 arg12 harg12 arg13 harg13 arg14 harg14 arg15 harg15 arg16 harg16 hc X hX sc
  rw [e]
  refine (_root_.Idealize.SL.BI.BIBase.Entails.trans ?_ (sound (mems arg3 arg4 arg5 arg6 arg7 arg8 arg9 arg10 arg11 arg12 arg13 arg14 arg15 arg16) arg2 c Set.univ sc K C X))
  rw [Own_mems, Own_mems, hin .q (.inl rfl), hin (.code false) (.inr (.inl ⟨_, rfl⟩)), hin (.code true) (.inr (.inl ⟨_, rfl⟩)),
    hin (.scale false) (.inr (.inr ⟨_, rfl⟩)), hin (.scale true) (.inr (.inr ⟨_, rfl⟩)), ho]
  iintro ⟨Hs, H3, H4, H5, H6, H7, H8, H9, H10, H11, H12, H13, H14, H15, H16, HK⟩
  isplitl [H3 H4 H5 H6 H7 H8 H9 H10 H11 H12 H13 H14 H15 H16]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [Hs]; · iexact Hs
  iintro ⟨⟨H3, H4, H5, H6, H7, H8, H9, H10, H11, H12, H13, H14, H15, H16⟩, Hs⟩
  iapply HK
  isplitl [Hs]; · iexact Hs
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]
  · iexists _
    isplitr; · ipureintro; exact hk.b
    iexact H14
  isplitl [H15]; · iexists _; iexact H15
  iexists _
  isplitr; · ipureintro; exact hk.w
  iexact H16

end Cert.KernelIdeal.Struct
-- ==== Proof.Run.lean ====
module

public import proofs.«01_k».proof.Proof.Point
public import Idealize.ShloMosaic.Lib.Claim

@[expose] public section

set_option maxRecDepth 16384

noncomputable section

namespace Cert.KernelIdeal.Out

open Idealize.ShloMosaic hiding ix1 ix2 ix3 ix4 ix5 ix6
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Struct

variable (m : (ℓ : Loc nD τ sig) → Buf (Elt Ideal) ℓ) (ρ : Dev nD → PrngReg)

/-- The block of results of point `t`, from the arrays as the region finds them. -/
def blk (c : Dev nD) (t : Fin cfg0.N) : S1x1024x128.Idx → Elt Ideal .bf16 :=
  res (iblk m c 0 t) (grid0.coords t) (iblk m c 1 t) (iblk m c 2 t) (iblk m c 3 t) (iblk m c 4 t) (iblk m c 5 t)

/-- The scratch buffers between points: the bias in place, the weights no tile writes zero, the others at anything. -/
def Kept' (c : Dev nD) : sProp (MT nD τ sig Unit (Elt Ideal) ℕ (UR sig nD τ) ℕ) := iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, ⌜∀ a b : Fin 128, d (ix2 a b) = biasv (F := Ideal) (ix2 a b)⌝ ∗ owns (c : Thread nD τ) scM0_5 fullShare d) ∗ (∃ d, owns (c : Thread nD τ) scM0_6 fullShare d) ∗ (∃ d, ⌜Struct.Wz d⌝ ∗ owns (c : Thread nD τ) scM0_7 fullShare d)) ∗ (∃ r, prngReg c r))

/-- The invariant before position `n`. -/
def PhiS (c : Dev nD) : (n : ℕ) → n ≤ cfg0.N → sProp (MT nD τ sig Unit (Elt Ideal) ℕ (UR sig nD τ) ℕ)
  | 0, _ => Pipeline.ΦA spec0 c
  | n + 1, hn => Kept' c

/-- The proof data: every input's buffer at its block, the output's at the block of results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blk m c t
  Φ t := PhiS c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp (MT nD τ sig Unit (Elt Ideal) ℕ (UR sig nD τ) ℕ) :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))
/-- and what it returns. -/
def bodyPost (c : Dev nD) (t : Fin cfg0.N) : sProp (MT nD τ sig Unit (Elt Ideal) ℕ (UR sig nD τ) ℕ) :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = Kept' c from rfl, show (dats m 0 c).Φ t.castSucc = PhiS c t.val (Nat.le_of_lt t.isLt) from by
    dsimp only [dats]; exact Pipeline.Dat.Φ_castSucc (PhiS c) t]
  have hN : t.val < 24 := lt_of_lt_of_eq t.isLt (show cfg0.N = 24 from N_0)
  have hc : First (grid0.coords t) ↔ t.val = 0 := (hcond0_0 t).trans ⟨fun h => by omega, fun h => by omega⟩
  unfold blk
  by_cases hz : t.val = 0
  · rw [show PhiS c t.val (Nat.le_of_lt t.isLt) = Pipeline.ΦA spec0 c from by
      obtain ⟨n, hn⟩ := t; change n = 0 at hz; subst hz; rfl, PhiA0_eq]
    iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, Ho, ⟨%d0, H0⟩, ⟨%d1, H1⟩, ⟨%d2, H2⟩, ⟨%d3, H3⟩, ⟨%d4, H4⟩, ⟨%d5, H5⟩, ⟨%d6, H6⟩⟩
    iapply (point_triple c (grid0.coords t) _ _ _ _ _ _ _ _ _ _ _ _ _ _ _ _ _ _ _ _ _ _ _ _ _ _ _ _ _ _ hc (iblk m c 0 t)
      (mkSt (iblk m c 1 t) (iblk m c 2 t) (iblk m c 3 t) (iblk m c 4 t) (iblk m c 5 t) ((dats m 0 c).before 6 t d6) e0 e1 e2 e3 e4 e5 e6 e7) (fun h => absurd hz h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    unfold Kept'
    iintro ⟨H0, H1, H2, H3, H4, H5, H6, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiS c t.val (Nat.le_of_lt t.isLt) = Kept' c from by
      obtain ⟨n, hn⟩ := t
      cases n with
      | zero => exact absurd rfl hz
      | succ n => rfl]
    unfold Kept'
    iintro ⟨⟨⟨⟨%e0, HS0⟩, ⟨%e1, HS1⟩, ⟨%e2, HS2⟩, ⟨%e3, HS3⟩, ⟨%e4, HS4⟩, ⟨%e5, %he5, HS5⟩, ⟨%e6, HS6⟩, ⟨%e7, %he7, HS7⟩⟩, Hg⟩, Ho, ⟨%d0, H0⟩, ⟨%d1, H1⟩, ⟨%d2, H2⟩, ⟨%d3, H3⟩, ⟨%d4, H4⟩, ⟨%d5, H5⟩, ⟨%d6, H6⟩⟩
    iapply (point_triple c (grid0.coords t) _ _ _ _ _ _ _ _ _ _ _ _ _ _ _ _ _ _ _ _ _ _ _ _ _ _ _ _ _ _ hc (iblk m c 0 t)
      (mkSt (iblk m c 1 t) (iblk m c 2 t) (iblk m c 3 t) (iblk m c 4 t) (iblk m c 5 t) ((dats m 0 c).before 6 t d6) e0 e1 e2 e3 e4 e5 e6 e7) (fun _ => ⟨he5, he7⟩))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Kept' c from rfl, PhiA0_eq]
  unfold Kept'
  iintro ⟨⟨HS0, HS1, HS2, HS3, HS4, ⟨%e5, %he5, HS5⟩, HS6, ⟨%e7, %he7, HS7⟩⟩, Hg⟩
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexists _; iexact HS5
    isplitl [HS6]; · iexact HS6
    iexists _; iexact HS7
  iexact Hg

set_option backward.isDefEq.respectTransparency.types false in
/-- The run: every array ends at what the proof data say, and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Out
-- ==== Proof.Read.lean ====
module

public import proofs.«01_k».proof.Proof.Run

@[expose] public section

set_option maxRecDepth 16384

noncomputable section

namespace Cert.KernelIdeal.Out

open Idealize.ShloMosaic hiding ix1 ix2 ix3 ix4 ix5 ix6
open Idealize.ShloMosaic.TcCoe Idealize.ShloMosaic.Tactic Idealize.ShloMosaic.ValueIdx
open Idealize.SL Idealize.SL.Sem
open Idealize.ShloMosaic.Pipeline (Dat)
open Cert.KernelIdeal.Gen Cert.KernelIdeal.Struct

variable (m : (ℓ : Loc nD τ sig) → Buf (Elt Ideal) ℓ) (ρ : Dev nD → PrngReg)

/-- The value of a code at its bit pattern. -/
def val (a : S2x1024x12x128.Idx → BitVec 8) : S2x1024x12x128.Idx → EReal := bitcastToFloat (F := Ideal) (s := S2x1024x12x128) .fp8e4m3 a

/-- The result in terms of the arguments: the kernel's tile arithmetic at sequence, head and query. -/
def whole (aq : S2x1024x12x128.Idx → BitVec 8) (qs : S2x12.Idx → EReal) (ak : S2x1024x12x128.Idx → BitVec 8) (ks : S2x1024x12.Idx → EReal)
    (av : S2x1024x12x128.Idx → BitVec 8) (vs : S2x1024x12.Idx → EReal) (b h r d : Nat) : EReal :=
  outOf (scoreOf (fun n d => val ak (nx4 b (keyOf n) h d)) fun r d => val aq (nx4 b r h d))
    (fun n => ks (nx3 b (keyOf n) h) * (qs (nx2 b h) * Named.named (F := Ideal) κ "score_scale" (φ := .f32) 0x3E0293EE#32))
    (fun n => vs (nx3 b (keyOf n) h)) (fun n d => val av (nx4 b (keyOf n) h d)) r d

theorem transpose_codes (x : S2x1024x12x128.Idx → EReal) (w) (b h r d : Nat) :
    transpose (s := S2x1024x12x128) S2x12x1024x128 [0, 2, 1, 3] x w (nx4 b h r d) = x (nx4 b r h d) :=
  congrArg x (ext4 rfl rfl rfl rfl)

theorem transpose_scales (x : S2x1024x12.Idx → EReal) (w) (b h r : Nat) :
    transpose (s := S2x1024x12) S12x2x1024 [2, 0, 1] x w (nx3 h b r) = x (nx3 b r h) :=
  congrArg x (ext3 rfl rfl rfl)

theorem index_at : ∀ t : Fin cfg0.N, (win0_1.index t = ![(grid0.coords t 0).val, (grid0.coords t 1).val, 0, 0]) ∧
   (win0_2.index t = ![(grid0.coords t 0).val, (grid0.coords t 1).val, 0, 0]) ∧
   (win0_3.index t = ![(grid0.coords t 0).val, (grid0.coords t 1).val, 0, 0]) ∧ win0_0.index t = ![0, 0] ∧
   win0_4.index t = ![0, 0, 0] ∧ win0_5.index t = ![0, 0, 0] ∧ win0_6.index t = ![(grid0.coords t 0).val, 0, (grid0.coords t 1).val] ∧
   t.val = 12 * (grid0.coords t 0).val + (grid0.coords t 1).val ∧ (grid0.coords t 0).val < 2 ∧ (grid0.coords t 1).val < 12 :=
  (by decide +kernel : ∀ t : Fin grid0.N, _)

theorem flush_at : ∀ t : Fin cfg0.N, (cfg0.win 6).flush t = true := (by decide +kernel : ∀ t : Fin grid0.N, win0_6.flush t = true)

theorem V3 (c : Dev nD) (b h r d : Nat) : (V m c main_v3 : S2x12x1024x128.Idx → EReal) (nx4 b h r d) = val (m (c, Proc.tc.devRef main_arg0)) (nx4 b r h d) := by
  entry_read; exact transpose_codes (val (m (c, Proc.tc.devRef main_arg0))) _ b h r d
theorem V4 (c : Dev nD) (b h r d : Nat) : (V m c main_v4 : S2x12x1024x128.Idx → EReal) (nx4 b h r d) = val (m (c, Proc.tc.devRef main_arg2)) (nx4 b r h d) := by
  entry_read; exact transpose_codes (val (m (c, Proc.tc.devRef main_arg2))) _ b h r d
theorem V5 (c : Dev nD) (b h r d : Nat) : (V m c main_v5 : S2x12x1024x128.Idx → EReal) (nx4 b h r d) = val (m (c, Proc.tc.devRef main_arg4)) (nx4 b r h d) := by
  entry_read; exact transpose_codes (val (m (c, Proc.tc.devRef main_arg4))) _ b h r d
theorem V6 (c : Dev nD) (b h r : Nat) : (V m c main_v6 : S12x2x1024.Idx → EReal) (nx3 h b r) = (m (c, Proc.tc.devRef main_arg3) : S2x1024x12.Idx → EReal) (nx3 b r h) := by
  entry_read; exact transpose_scales (m (c, Proc.tc.devRef main_arg3)) _ b h r
theorem V7 (c : Dev nD) (b h r : Nat) : (V m c main_v7 : S12x2x1024.Idx → EReal) (nx3 h b r) = (m (c, Proc.tc.devRef main_arg5) : S2x1024x12.Idx → EReal) (nx3 b r h) := by
  entry_read; exact transpose_scales (m (c, Proc.tc.devRef main_arg5)) _ b h r

theorem i1 (c : Dev nD) (t : Fin cfg0.N) (r d : Nat) :
    (iblk m c 1 t : S1x1x1024x128.Idx → EReal) (nx4 0 0 r d) = val (m (c, Proc.tc.devRef main_arg0)) (nx4 (grid0.coords t 0).val r (grid0.coords t 1).val d) := by
  obtain ⟨h1, h2, h3, h0, h4, h5, h6, ht, hb, hh⟩ := index_at t
  refine Eq.trans ?_ (V3 m c (grid0.coords t 0).val (grid0.coords t 1).val r d)
  refine congrArg (V m c main_v3) (ext4 ?_ ?_ ?_ ?_)
  · show win0_1.index t 0 * 1 + 1 * 0 = (grid0.coords t 0).val % 2
    rw [h1]; show (grid0.coords t 0).val * 1 + 1 * 0 = _; omega
  · show win0_1.index t 1 * 1 + 1 * 0 = (grid0.coords t 1).val % 12
    rw [h1]; show (grid0.coords t 1).val * 1 + 1 * 0 = _; omega
  · show win0_1.index t 2 * 1024 + 1 * (r % 1024) = r % 1024
    rw [h1]; show 0 * 1024 + 1 * (r % 1024) = _; omega
  · show win0_1.index t 3 * 128 + 1 * (d % 128) = d % 128
    rw [h1]; show 0 * 128 + 1 * (d % 128) = _; omega

theorem i2 (c : Dev nD) (t : Fin cfg0.N) (r d : Nat) :
    (iblk m c 2 t : S1x1x1024x128.Idx → EReal) (nx4 0 0 r d) = val (m (c, Proc.tc.devRef main_arg2)) (nx4 (grid0.coords t 0).val r (grid0.coords t 1).val d) := by
  obtain ⟨h1, h2, h3, h0, h4, h5, h6, ht, hb, hh⟩ := index_at t
  refine Eq.trans ?_ (V4 m c (grid0.coords t 0).val (grid0.coords t 1).val r d)
  refine congrArg (V m c main_v4) (ext4 ?_ ?_ ?_ ?_)
  · show win0_2.index t 0 * 1 + 1 * 0 = (grid0.coords t 0).val % 2
    rw [h2]; show (grid0.coords t 0).val * 1 + 1 * 0 = _; omega
  · show win0_2.index t 1 * 1 + 1 * 0 = (grid0.coords t 1).val % 12
    rw [h2]; show (grid0.coords t 1).val * 1 + 1 * 0 = _; omega
  · show win0_2.index t 2 * 1024 + 1 * (r % 1024) = r % 1024
    rw [h2]; show 0 * 1024 + 1 * (r % 1024) = _; omega
  · show win0_2.index t 3 * 128 + 1 * (d % 128) = d % 128
    rw [h2]; show 0 * 128 + 1 * (d % 128) = _; omega

theorem i3 (c : Dev nD) (t : Fin cfg0.N) (r d : Nat) :
    (iblk m c 3 t : S1x1x1024x128.Idx → EReal) (nx4 0 0 r d) = val (m (c, Proc.tc.devRef main_arg4)) (nx4 (grid0.coords t 0).val r (grid0.coords t 1).val d) := by
  obtain ⟨h1, h2, h3, h0, h4, h5, h6, ht, hb, hh⟩ := index_at t
  refine Eq.trans ?_ (V5 m c (grid0.coords t 0).val (grid0.coords t 1).val r d)
  refine congrArg (V m c main_v5) (ext4 ?_ ?_ ?_ ?_)
  · show win0_3.index t 0 * 1 + 1 * 0 = (grid0.coords t 0).val % 2
    rw [h3]; show (grid0.coords t 0).val * 1 + 1 * 0 = _; omega
  · show win0_3.index t 1 * 1 + 1 * 0 = (grid0.coords t 1).val % 12
    rw [h3]; show (grid0.coords t 1).val * 1 + 1 * 0 = _; omega
  · show win0_3.index t 2 * 1024 + 1 * (r % 1024) = r % 1024
    rw [h3]; show 0 * 1024 + 1 * (r % 1024) = _; omega
  · show win0_3.index t 3 * 128 + 1 * (d % 128) = d % 128
    rw [h3]; show 0 * 128 + 1 * (d % 128) = _; omega

theorem i4 (c : Dev nD) (t : Fin cfg0.N) (b h r : Nat) :
    (iblk m c 4 t : S12x2x1024.Idx → EReal) (nx3 h b r) = (m (c, Proc.tc.devRef main_arg3) : S2x1024x12.Idx → EReal) (nx3 b r h) := by
  obtain ⟨h1, h2, h3, h0, h4, h5, h6, ht, hb, hh⟩ := index_at t
  refine Eq.trans ?_ (V6 m c b h r)
  refine congrArg (V m c main_v6) (ext3 ?_ ?_ ?_)
  · show win0_4.index t 0 * 12 + 1 * (h % 12) = h % 12
    rw [h4]; show 0 * 12 + 1 * (h % 12) = _; omega
  · show win0_4.index t 1 * 2 + 1 * (b % 2) = b % 2
    rw [h4]; show 0 * 2 + 1 * (b % 2) = _; omega
  · show win0_4.index t 2 * 1024 + 1 * (r % 1024) = r % 1024
    rw [h4]; show 0 * 1024 + 1 * (r % 1024) = _; omega

theorem i5 (c : Dev nD) (t : Fin cfg0.N) (b h r : Nat) :
    (iblk m c 5 t : S12x2x1024.Idx → EReal) (nx3 h b r) = (m (c, Proc.tc.devRef main_arg5) : S2x1024x12.Idx → EReal) (nx3 b r h) := by
  obtain ⟨h1, h2, h3, h0, h4, h5, h6, ht, hb, hh⟩ := index_at t
  refine Eq.trans ?_ (V7 m c b h r)
  refine congrArg (V m c main_v7) (ext3 ?_ ?_ ?_)
  · show win0_5.index t 0 * 12 + 1 * (h % 12) = h % 12
    rw [h5]; show 0 * 12 + 1 * (h % 12) = _; omega
  · show win0_5.index t 1 * 2 + 1 * (b % 2) = b % 2
    rw [h5]; show 0 * 2 + 1 * (b % 2) = _; omega
  · show win0_5.index t 2 * 1024 + 1 * (r % 1024) = r % 1024
    rw [h5]; show 0 * 1024 + 1 * (r % 1024) = _; omega

theorem i0 (c : Dev nD) (t : Fin cfg0.N) (b h : Nat) :
    (iblk m c 0 t : S2x12.Idx → EReal) (nx2 b h) = (m (c, Proc.tc.devRef main_arg1) : S2x12.Idx → EReal) (nx2 b h) := by
  obtain ⟨h1, h2, h3, h0, h4, h5, h6, ht, hb, hh⟩ := index_at t
  refine Eq.trans ?_ (congrFun (V_main_arg1 m c) _)
  refine congrArg (V m c main_arg1) (ext2 ?_ ?_)
  · show win0_0.index t 0 * 2 + 1 * (b % 2) = b % 2
    rw [h0]; show 0 * 2 + 1 * (b % 2) = _; omega
  · show win0_0.index t 1 * 12 + 1 * (h % 12) = h % 12
    rw [h0]; show 0 * 12 + 1 * (h % 12) = _; omega

/-- The result's array, from the arguments at launch. -/
def G (c : Dev nD) : S2x1024x1536.Idx → Elt Ideal .bf16 := fun y =>
  whole (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (y 0).val ((y 2).val / 128) (y 1).val ((y 2).val % 128)

theorem blk_eq (c : Dev nD) (t : Fin cfg0.N) (y : S1x1024x128.Idx) :
    (blk m c t y : EReal) = whole (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (grid0.coords t 0).val (grid0.coords t 1).val (y 1).val (y 2).val := by
  unfold blk res point whole scl
  simp only [i1, i2, i3, i4, i5, i0]

theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  obtain ⟨h1, h2, h3, h0, h4, h5, h6, ht, hb, hh⟩ := index_at t
  funext y
  have hy0 : (y 0).val < 1 := (y 0).isLt
  have hy1 : (y 1).val < 1024 := (y 1).isLt
  have hy2 : (y 2).val < 128 := (y 2).isLt
  have e0 : (((cfg0.win 6).blk t).view.emb y 0).val = (grid0.coords t 0).val := by
    show win0_6.index t 0 * 1 + 1 * (y 0).val = _
    rw [h6]; show (grid0.coords t 0).val * 1 + 1 * (y 0).val = _; omega
  have e1 : (((cfg0.win 6).blk t).view.emb y 1).val = (y 1).val := by
    show win0_6.index t 1 * 1024 + 1 * (y 1).val = _
    rw [h6]; show 0 * 1024 + 1 * (y 1).val = _; omega
  have e2 : (((cfg0.win 6).blk t).view.emb y 2).val = (grid0.coords t 1).val * 128 + (y 2).val := by
    show win0_6.index t 2 * 128 + 1 * (y 2).val = _
    rw [h6]; show (grid0.coords t 1).val * 128 + 1 * (y 2).val = _; omega
  show (blk m c t ((cfg0.win 6).xinj (grid0.coords t) y) : EReal) = G m c (((cfg0.win 6).blk t).view.emb y)
  rw [blk_eq]
  unfold G
  rw [e0, e1, e2, show ((grid0.coords t 1).val * 128 + (y 2).val) / 128 = (grid0.coords t 1).val from by omega,
    show ((grid0.coords t 1).val * 128 + (y 2).val) % 128 = (y 2).val from by omega]

theorem mem_blk (t : Fin cfg0.N) (i : S2x1024x1536.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v8).slice (win0_6.rect t)).set ↔ _
  rw [View.set_slice_whole, Rect.mem_set_unit]
  exact Iff.rfl

theorem final (c : Dev nD) : (dats m 0 c).arrAt 6 cfg0.N = G m c :=
  (dats m 0 c).arrAt_eq_of_cover 6 _ (fun t _ => flushed_eq m c t) (fun i => by
    have hi0 : (i 0).val < 2 := (i 0).isLt
    have hi1 : (i 1).val < 1024 := (i 1).isLt
    have hi2 : (i 2).val < 1536 := (i 2).isLt
    let t : Fin cfg0.N := ⟨12 * (i 0).val + (i 2).val / 128, lt_of_lt_of_eq (by omega) N_0.symm⟩
    refine ⟨t, flush_at t, ?_⟩
    obtain ⟨h1, h2, h3, h0, h4, h5, h6, ht, hb, hh⟩ := index_at t
    have ht' : 12 * (i 0).val + (i 2).val / 128 = 12 * (grid0.coords t 0).val + (grid0.coords t 1).val := ht
    rw [mem_blk, h6]
    intro a
    match a with
    | ⟨0, _⟩ => show (grid0.coords t 0).val * 1 ≤ (i 0).val ∧ (i 0).val < (grid0.coords t 0).val * 1 + 1; omega
    | ⟨1, _⟩ => show 0 * 1024 ≤ (i 1).val ∧ (i 1).val < 0 * 1024 + 1024; omega
    | ⟨2, _⟩ => show (grid0.coords t 1).val * 128 ≤ (i 2).val ∧ (i 2).val < (grid0.coords t 1).val * 128 + 128; omega)

/-- The run of the idealized kernel: its result is `G`, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Out
-- ==== Proof.RefRead.lean ====
module

public import proofs.«01_k».proof.Proof.Gen.ReferenceIdeal.Frame
public import Idealize.ShloMosaic.PureOps.Ideal
public import Idealize.ShloMosaic.Lib.Claim

@[expose] public section

set_option maxRecDepth 16384

noncomputable section

namespace Cert.ReferenceIdeal.Out

open Idealize.ShloMosaic Idealize.ShloMosaic.TcCoe Idealize.ShloMosaic.Tactic
open Idealize.SL Idealize.SL.Sem
open Cert.ReferenceIdeal.Gen

def ninf : FVec Ideal S_ .f32 :=
  ((constant S_ .f32 0xFF800000#32))

def ninf8 : FVec Ideal S_ .f32 :=
  ((constant S_ .f32 0xFF800000#32))

def S (v3_0 : FVec Ideal S2x1024x12x128 .f32) (v3_1 : FVec Ideal S2x1024x12x128 .f32) (arg1 : FVec Ideal S2x12 .f32) (arg3 : FVec Ideal S2x1024x12 .f32) : FVec Ideal S2x12x1024x16x64 .f32 :=
  (shapeCast S2x12x1024x16x64 ((mulf) ((mulf) (((fun l r => Host.dotGeneral dot_S2x1024x12x128_S2x1024x12x128_S2x12x1024x1024_3_3_1_1_02_02 none l r)) v3_0 v3_1) ((broadcastInDim S2x12x1024x1024 ![0, 1, 2, 3] bcast_S2x12x1x1_S2x12x1024x1024_0_1_2_3) ((broadcastInDim S2x12x1x1 ![0, 1] bcast_S2x12_S2x12x1x1_0_1) ((Host.divf) arg1 ((broadcastInDim S2x12 ![] bcast_S_S2x12) ((Host.sqrt) ((constant S_ .f32 0x43000000#32)))))))) ((broadcastInDim S2x12x1024x1024 ![0, 1, 2, 3] bcast_S2x12x1x1024_S2x12x1024x1024_0_1_2_3) ((broadcastInDim S2x12x1x1024 ![0, 1, 3] bcast_S2x12x1024_S2x12x1x1024_0_1_3) (((transpose S2x12x1024 [0, 2, 1] · transposes_S2x1024x12_S2x12x1024_0_2_1)) arg3)))) shapeCasts_S2x12x1024x1024_S2x12x1024x16x64)

def lse (v15 : FVec Ideal S2x12x1024x16x64 .f32) : FVec Ideal S2x12x1024x16x1 .f32 :=
  ((addf) ((broadcastInDim S2x12x1024x16x1 ![0, 1, 2, 3] bcast_S2x12x1024x16_S2x12x1024x16x1_0_1_2_3) (((fun x v => Host.reduce FloatOps.maximumf x v reducesTo_S2x12x1024x16x63_S2x12x1024x16_d4 h_S_)) (((extractStridedSlice S2x12x1024x16x63 ![0, 0, 0, 0, 0] · slices_S2x12x1024x16x64_S2x12x1024x16x63_0_0_0_0_0)) v15) ((constant S_ .f32 0xFF800000#32)))) ((Host.log) ((broadcastInDim S2x12x1024x16x1 ![0, 1, 2, 3] bcast_S2x12x1024x16_S2x12x1024x16x1_0_1_2_3) (((fun x v => Host.reduceAdd x v reducesTo_S2x12x1024x16x63_S2x12x1024x16_d4 h_S_)) ((Host.exp) ((subf) (((extractStridedSlice S2x12x1024x16x63 ![0, 0, 0, 0, 0] · slices_S2x12x1024x16x64_S2x12x1024x16x63_0_0_0_0_0)) v15) ((broadcastInDim S2x12x1024x16x63 ![0, 1, 2, 3, 4] bcast_S2x12x1024x16x1_S2x12x1024x16x63_0_1_2_3_4) ((broadcastInDim S2x12x1024x16x1 ![0, 1, 2, 3] bcast_S2x12x1024x16_S2x12x1024x16x1_0_1_2_3) (((fun x v => Host.reduce FloatOps.maximumf x v reducesTo_S2x12x1024x16x63_S2x12x1024x16_d4 h_S_)) (((extractStridedSlice S2x12x1024x16x63 ![0, 0, 0, 0, 0] · slices_S2x12x1024x16x64_S2x12x1024x16x63_0_0_0_0_0)) v15) ((constant S_ .f32 0xFF800000#32))))))) ((constant S_ .f32 0x00000000#32))))))

def lmk (v15 : FVec Ideal S2x12x1024x16x64 .f32) : FVec Ideal S2x12x1024x16x1 .f32 :=
  (((extractStridedSlice S2x12x1024x16x1 ![0, 0, 0, 0, 63] · slices_S2x12x1024x16x64_S2x12x1024x16x1_0_0_0_0_63)) v15)

def own : IVec S1024x16x64 1 :=
  ((andi) ((andi) ((cmpi .sle) ((broadcastInDim S1024x16x64 ![0, 1, 2] bcast_S1x16x64_S1024x16x64_0_1_2) ((addi) ((broadcastInDim S1x16x64 ![0, 1, 2] bcast_S1x16x1_S1x16x64_0_1_2) ((muli) ((broadcastInDim S1x16x1 ![] bcast_S_S1x16x1) ((constantI S_ 32 64#32))) ((broadcastInDim S1x16x1 ![1] bcast_S16_S1x16x1_1) ((iotaInDim S16 32 0))))) ((broadcastInDim S1x16x64 ![0, 1, 2] bcast_S1x1x64_S1x16x64_0_1_2) ((broadcastInDim S1x1x64 ![2] bcast_S64_S1x1x64_2) ((iotaInDim S64 32 0)))))) ((broadcastInDim S1024x16x64 ![0, 1, 2] bcast_S1024x1x1_S1024x16x64_0_1_2) ((broadcastInDim S1024x1x1 ![0] bcast_S1024_S1024x1x1_0) ((iotaInDim S1024 32 0))))) ((broadcastInDim S1024x16x64 ![0, 1, 2] bcast_S1024x16x1_S1024x16x64_0_1_2) ((cmpi .slt) ((broadcastInDim S1024x16x1 ![0, 1, 2] bcast_S1024x1x1_S1024x16x1_0_1_2) ((broadcastInDim S1024x1x1 ![0] bcast_S1024_S1024x1x1_0) ((iotaInDim S1024 32 0)))) ((broadcastInDim S1024x16x1 ![0, 1, 2] bcast_S1x16x1_S1024x16x1_0_1_2) ((addi) ((muli) ((broadcastInDim S1x16x1 ![] bcast_S_S1x16x1) ((constantI S_ 32 64#32))) ((broadcastInDim S1x16x1 ![1] bcast_S16_S1x16x1_1) ((iotaInDim S16 32 0)))) ((broadcastInDim S1x16x1 ![] bcast_S_S1x16x1) ((constantI S_ 32 64#32)))))))) ((broadcastInDim S1024x16x64 ![0, 1, 2] bcast_S1x1x64_S1024x16x64_0_1_2) ((cmpi .slt) ((broadcastInDim S1x1x64 ![2] bcast_S64_S1x1x64_2) ((iotaInDim S64 32 0))) ((broadcastInDim S1x1x64 ![] bcast_S_S1x1x64) ((constantI S_ 32 63#32))))))

def past : IVec S1024x16x64 1 :=
  ((andi) ((broadcastInDim S1024x16x64 ![0, 1, 2] bcast_S1024x16x1_S1024x16x64_0_1_2) ((cmpi .sle) ((broadcastInDim S1024x16x1 ![0, 1, 2] bcast_S1x16x1_S1024x16x1_0_1_2) ((addi) ((muli) ((broadcastInDim S1x16x1 ![] bcast_S_S1x16x1) ((constantI S_ 32 64#32))) ((broadcastInDim S1x16x1 ![1] bcast_S16_S1x16x1_1) ((iotaInDim S16 32 0)))) ((broadcastInDim S1x16x1 ![] bcast_S_S1x16x1) ((constantI S_ 32 64#32))))) ((broadcastInDim S1024x16x1 ![0, 1, 2] bcast_S1024x1x1_S1024x16x1_0_1_2) ((broadcastInDim S1024x1x1 ![0] bcast_S1024_S1024x1x1_0) ((iotaInDim S1024 32 0)))))) ((broadcastInDim S1024x16x64 ![0, 1, 2] bcast_S1x1x64_S1024x16x64_0_1_2) ((cmpi .slt) ((broadcastInDim S1x1x64 ![2] bcast_S64_S1x1x64_2) ((iotaInDim S64 32 0))) ((broadcastInDim S1x1x64 ![] bcast_S_S1x1x64) ((constantI S_ 32 63#32))))))

def outer : IVec S1024x16x64 1 :=
  ((ori) ((andi) ((andi) ((cmpi .sle) ((broadcastInDim S1024x16x64 ![0, 1, 2] bcast_S1x16x64_S1024x16x64_0_1_2) ((addi) ((broadcastInDim S1x16x64 ![0, 1, 2] bcast_S1x16x1_S1x16x64_0_1_2) ((muli) ((broadcastInDim S1x16x1 ![] bcast_S_S1x16x1) ((constantI S_ 32 64#32))) ((broadcastInDim S1x16x1 ![1] bcast_S16_S1x16x1_1) ((iotaInDim S16 32 0))))) ((broadcastInDim S1x16x64 ![0, 1, 2] bcast_S1x1x64_S1x16x64_0_1_2) ((broadcastInDim S1x1x64 ![2] bcast_S64_S1x1x64_2) ((iotaInDim S64 32 0)))))) ((broadcastInDim S1024x16x64 ![0, 1, 2] bcast_S1024x1x1_S1024x16x64_0_1_2) ((broadcastInDim S1024x1x1 ![0] bcast_S1024_S1024x1x1_0) ((iotaInDim S1024 32 0))))) ((broadcastInDim S1024x16x64 ![0, 1, 2] bcast_S1024x16x1_S1024x16x64_0_1_2) ((cmpi .slt) ((broadcastInDim S1024x16x1 ![0, 1, 2] bcast_S1024x1x1_S1024x16x1_0_1_2) ((broadcastInDim S1024x1x1 ![0] bcast_S1024_S1024x1x1_0) ((iotaInDim S1024 32 0)))) ((broadcastInDim S1024x16x1 ![0, 1, 2] bcast_S1x16x1_S1024x16x1_0_1_2) ((addi) ((muli) ((broadcastInDim S1x16x1 ![] bcast_S_S1x16x1) ((constantI S_ 32 64#32))) ((broadcastInDim S1x16x1 ![1] bcast_S16_S1x16x1_1) ((iotaInDim S16 32 0)))) ((broadcastInDim S1x16x1 ![] bcast_S_S1x16x1) ((constantI S_ 32 64#32)))))))) ((broadcastInDim S1024x16x64 ![0, 1, 2] bcast_S1x1x64_S1024x16x64_0_1_2) ((cmpi .slt) ((broadcastInDim S1x1x64 ![2] bcast_S64_S1x1x64_2) ((iotaInDim S64 32 0))) ((broadcastInDim S1x1x64 ![] bcast_S_S1x1x64) ((constantI S_ 32 63#32)))))) ((andi) ((broadcastInDim S1024x16x64 ![0, 1, 2] bcast_S1024x16x1_S1024x16x64_0_1_2) ((cmpi .sle) ((broadcastInDim S1024x16x1 ![0, 1, 2] bcast_S1x16x1_S1024x16x1_0_1_2) ((addi) ((muli) ((broadcastInDim S1x16x1 ![] bcast_S_S1x16x1) ((constantI S_ 32 64#32))) ((broadcastInDim S1x16x1 ![1] bcast_S16_S1x16x1_1) ((iotaInDim S16 32 0)))) ((broadcastInDim S1x16x1 ![] bcast_S_S1x16x1) ((constantI S_ 32 64#32))))) ((broadcastInDim S1024x16x1 ![0, 1, 2] bcast_S1024x1x1_S1024x16x1_0_1_2) ((broadcastInDim S1024x1x1 ![0] bcast_S1024_S1024x1x1_0) ((iotaInDim S1024 32 0)))))) ((broadcastInDim S1024x16x64 ![0, 1, 2] bcast_S1x1x64_S1024x16x64_0_1_2) ((noti) ((cmpi .slt) ((broadcastInDim S1x1x64 ![2] bcast_S64_S1x1x64_2) ((iotaInDim S64 32 0))) ((broadcastInDim S1x1x64 ![] bcast_S_S1x1x64) ((constantI S_ 32 63#32))))))))

def msk (cst_5 : FVec Ideal S_ .f32) (v64 : IVec S1024x16x64 1) (v15 : FVec Ideal S2x12x1024x16x64 .f32) : FVec Ideal S2x12x1024x16x64 .f32 :=
  ((select) (((broadcastInDim S2x12x1024x16x64 ![2, 3, 4] bcast_S1024x16x64_S2x12x1024x16x64_2_3_4)) v64) v15 (((broadcastInDim S2x12x1024x16x64 ![] bcast_S_S2x12x1024x16x64)) cst_5))

def tot (v65 : FVec Ideal S2x12x1024x16x64 .f32) : FVec Ideal S2x12x1024x1x1 .f32 :=
  ((addf) ((broadcastInDim S2x12x1024x1x1 ![0, 1, 2] bcast_S2x12x1024_S2x12x1024x1x1_0_1_2) (((fun x v => Host.reduce FloatOps.maximumf x v reducesTo_S2x12x1024x16x64_S2x12x1024_d3_4 h_S_)) v65 ((constant S_ .f32 0xFF800000#32)))) ((Host.log) ((broadcastInDim S2x12x1024x1x1 ![0, 1, 2] bcast_S2x12x1024_S2x12x1024x1x1_0_1_2) (((fun x v => Host.reduceAdd x v reducesTo_S2x12x1024x16x64_S2x12x1024_d3_4 h_S_)) ((Host.exp) ((subf) v65 ((broadcastInDim S2x12x1024x16x64 ![0, 1, 2, 3, 4] bcast_S2x12x1024x1x1_S2x12x1024x16x64_0_1_2_3_4) ((broadcastInDim S2x12x1024x1x1 ![0, 1, 2] bcast_S2x12x1024_S2x12x1024x1x1_0_1_2) (((fun x v => Host.reduce FloatOps.maximumf x v reducesTo_S2x12x1024x16x64_S2x12x1024_d3_4 h_S_)) v65 ((constant S_ .f32 0xFF800000#32))))))) ((constant S_ .f32 0x00000000#32))))))

def ownArg (v15 : FVec Ideal S2x12x1024x16x64 .f32) (v74 : FVec Ideal S2x12x1024x1x1 .f32) : FVec Ideal S2x12x1024x16x64 .f32 :=
  ((subf) v15 ((broadcastInDim S2x12x1024x16x64 ![0, 1, 2, 3, 4] bcast_S2x12x1024x1x1_S2x12x1024x16x64_0_1_2_3_4) v74))

def pastArg (v15 : FVec Ideal S2x12x1024x16x64 .f32) (v25 : FVec Ideal S2x12x1024x16x1 .f32) (v26 : FVec Ideal S2x12x1024x16x1 .f32) (v74 : FVec Ideal S2x12x1024x1x1 .f32) : FVec Ideal S2x12x1024x16x64 .f32 :=
  ((subf) ((addf) ((broadcastInDim S2x12x1024x16x64 ![0, 1, 2, 3, 4] bcast_S2x12x1024x16x1_S2x12x1024x16x64_0_1_2_3_4) ((subf) v26 ((broadcastInDim S2x12x1024x16x1 ![0, 1, 2, 3, 4] bcast_S2x12x1024x1x1_S2x12x1024x16x1_0_1_2_3_4) v74))) v15) ((broadcastInDim S2x12x1024x16x64 ![0, 1, 2, 3, 4] bcast_S2x12x1024x16x1_S2x12x1024x16x64_0_1_2_3_4) v25))

def arg1 (cst_8 : FVec Ideal S_ .f32) (v59 : IVec S1024x16x64 1) (v82 : FVec Ideal S2x12x1024x16x64 .f32) : FVec Ideal S2x12x1024x16x64 .f32 :=
  ((select) (((broadcastInDim S2x12x1024x16x64 ![2, 3, 4] bcast_S1024x16x64_S2x12x1024x16x64_2_3_4)) v59) v82 (((broadcastInDim S2x12x1024x16x64 ![] bcast_S_S2x12x1024x16x64)) cst_8))

def arg (v56 : IVec S1024x16x64 1) (v76 : FVec Ideal S2x12x1024x16x64 .f32) (v83 : FVec Ideal S2x12x1024x16x64 .f32) : FVec Ideal S2x12x1024x16x64 .f32 :=
  ((select) (((broadcastInDim S2x12x1024x16x64 ![2, 3, 4] bcast_S1024x16x64_S2x12x1024x16x64_2_3_4)) v56) v76 v83)

def outp (v84 : FVec Ideal S2x12x1024x16x64 .f32) (arg5 : FVec Ideal S2x1024x12 .f32) (v3_2 : FVec Ideal S2x1024x12x128 .bf16) : FVec Ideal S2x1024x1536 .bf16 :=
  (shapeCast S2x1024x1536 (((truncf .bf16 · bitsLt_bf16_f32)) (((transpose S2x1024x12x128 [0, 3, 1, 2] · transposes_S2x12x128x1024_S2x1024x12x128_0_3_1_2)) (((fun l r => Host.dotGeneral dot_S2x1024x12x128_S2x12x1024x1024_S2x12x128x1024_1_3_3_2_02_01 none l r)) v3_2 (((truncf .bf16 · bitsLt_bf16_f32)) ((mulf) (shapeCast S2x12x1024x1024 ((Host.exp) v84) shapeCasts_S2x12x1024x16x64_S2x12x1024x1024) ((broadcastInDim S2x12x1024x1024 ![0, 1, 2, 3] bcast_S2x12x1x1024_S2x12x1024x1024_0_1_2_3) ((broadcastInDim S2x12x1x1024 ![0, 1, 3] bcast_S2x12x1024_S2x12x1x1024_0_1_3) (((transpose S2x12x1024 [0, 2, 1] · transposes_S2x1024x12_S2x12x1024_0_2_1)) arg5)))))))) shapeCasts_S2x1024x12x128_S2x1024x1536)

variable (σ : Valuation τ sig (Elt Ideal))

theorem at_v15 : StableHlo.after (hostOps1 (F := Ideal)) σ (Proc.devRef .tc main_v15) = (S (σ (Proc.devRef .tc main_v3_0)) (σ (Proc.devRef .tc main_v3_1)) (σ (Proc.devRef .tc main_arg1)) (σ (Proc.devRef .tc main_arg3))) := by
  after_results
  try rfl

theorem at_v25 : StableHlo.after (hostOps1 (F := Ideal)) σ (Proc.devRef .tc main_v25) = (lse (S (σ (Proc.devRef .tc main_v3_0)) (σ (Proc.devRef .tc main_v3_1)) (σ (Proc.devRef .tc main_arg1)) (σ (Proc.devRef .tc main_arg3)))) := by
  after_results
  try rfl

theorem at_v26 : StableHlo.after (hostOps1 (F := Ideal)) σ (Proc.devRef .tc main_v26) = (lmk (S (σ (Proc.devRef .tc main_v3_0)) (σ (Proc.devRef .tc main_v3_1)) (σ (Proc.devRef .tc main_arg1)) (σ (Proc.devRef .tc main_arg3)))) := by
  after_results
  try rfl

theorem at_v56 : StableHlo.after (hostOps1 (F := Ideal)) σ (Proc.devRef .tc main_v56) = own := by
  after_results
  try rfl

theorem at_v59 : StableHlo.after (hostOps1 (F := Ideal)) σ (Proc.devRef .tc main_v59) = past := by
  after_results
  try rfl

theorem at_v64 : StableHlo.after (hostOps1 (F := Ideal)) σ (Proc.devRef .tc main_v64) = outer := by
  after_results
  try rfl

theorem at_cst_5 : StableHlo.after (hostOps1 (F := Ideal)) σ (Proc.devRef .tc main_cst_5) = ninf := by
  after_results
  try rfl

theorem at_v65 : StableHlo.after (hostOps1_1 (F := Ideal)) σ (Proc.devRef .tc main_v65) = (msk (σ (Proc.devRef .tc main_cst_5)) (σ (Proc.devRef .tc main_v64)) (σ (Proc.devRef .tc main_v15))) := by
  after_results
  try rfl

theorem at_v76 : StableHlo.after (hostOps1_2 (F := Ideal)) σ (Proc.devRef .tc main_v76) = (ownArg (σ (Proc.devRef .tc main_v15)) (tot (σ (Proc.devRef .tc main_v65)))) := by
  after_results
  try rfl

theorem at_v82 : StableHlo.after (hostOps1_2 (F := Ideal)) σ (Proc.devRef .tc main_v82) = (pastArg (σ (Proc.devRef .tc main_v15)) (σ (Proc.devRef .tc main_v25)) (σ (Proc.devRef .tc main_v26)) (tot (σ (Proc.devRef .tc main_v65)))) := by
  after_results
  try rfl

theorem at_cst_8 : StableHlo.after (hostOps1_2 (F := Ideal)) σ (Proc.devRef .tc main_cst_8) = ninf8 := by
  after_results
  try rfl

theorem at_v83 : StableHlo.after (hostOps1_3 (F := Ideal)) σ (Proc.devRef .tc main_v83) = (arg1 (σ (Proc.devRef .tc main_cst_8)) (σ (Proc.devRef .tc main_v59)) (σ (Proc.devRef .tc main_v82))) := by
  after_results
  try rfl

theorem at_v84 : StableHlo.after (hostOps1_4 (F := Ideal)) σ (Proc.devRef .tc main_v84) = (arg (σ (Proc.devRef .tc main_v56)) (σ (Proc.devRef .tc main_v76)) (σ (Proc.devRef .tc main_v83))) := by
  after_results
  try rfl

theorem at_v95 : StableHlo.after (hostOps1_5 (F := Ideal)) σ (Proc.devRef .tc main_v95) = (outp (σ (Proc.devRef .tc main_v84)) (σ (Proc.devRef .tc main_arg5)) (σ (Proc.devRef .tc main_v3_2))) := by
  after_results
  try rfl

end Cert.ReferenceIdeal.Out
-- ==== Proof.RefValue.lean ====
module

public import proofs.«01_k».proof.Proof.RefRead
public import proofs.«01_k».proof.Proof.Soft
public import Idealize.ShloMosaic.Lib.ValueIdx
public import Idealize.ShloMosaic.Lib.ValueIdxCoords
public import Idealize.ShloMosaic.Lib.ValueLayout
public import Idealize.ShloMosaic.Lib.Pointwise.Reshape

@[expose] public section

set_option maxRecDepth 16384

noncomputable section

/-! The reference's value read at one entry. -/

namespace Cert.ReferenceIdeal.Out

open Idealize.ShloMosaic hiding ix1 ix2 ix3 ix4 ix5 ix6
open Idealize.ShloMosaic.ValueIdx
open Cert.ReferenceIdeal.Gen
open Finset Cert.Soft

/-- The key at place `j` of block `c`. -/
def key (c : Fin 16) (j : Fin 64) : Fin 1024 := ⟨64 * c.val + j.val, by omega⟩

/-- The pattern of minus infinity denotes minus infinity. -/
theorem ninf_eq : (Ideal.ofBits .f32 0xFF800000#32 : EReal) = ⊥ := by
  simp [Ideal.ofBits, Ideal.ieee]
/-- The pattern of zero denotes zero. -/
theorem zero_eq : (Ideal.ofBits .f32 0x00000000#32 : EReal) = 0 := by
  simp [Ideal.ofBits, Ideal.ieee]
/-- The pattern of 128 denotes 128. -/
theorem n128_eq : (Ideal.ofBits .f32 0x43000000#32 : EReal) = ((128 : ℝ) : EReal) := by
  simp [Ideal.ofBits, Ideal.ieee]
  rw [← EReal.coe_mul]
  norm_num

/-- A score. -/
theorem S_at (vq vk : FVec Ideal S2x1024x12x128 .f32) (qs : FVec Ideal S2x12 .f32) (ks : FVec Ideal S2x1024x12 .f32)
    (b : Fin 2) (h : Fin 12) (r : Fin 1024) (c : Fin 16) (j : Fin 64) :
    (S vq vk qs ks (ix5 b h r c j) : EReal) = (∑ d : Fin 128, (vq (ix4 b r h d) : EReal) * vk (ix4 b (key c j) h d)) *
      Ideal.div (qs (ix2 b h)) (Ideal.sqrt (Ideal.ofBits .f32 0x43000000#32)) * ks (ix3 b (key c j) h) := by
  unfold S
  rw [shapeCast_apply _ _ (ix5 b h r c j) (ix4 b h r (key c j)) (by
    rw [Shape.rowMajor_val_four, Shape.rowMajor_val_five]
    show ((b.val * 12 + h.val) * 1024 + r.val) * 1024 + (64 * c.val + j.val) = (((b.val * 12 + h.val) * 1024 + r.val) * 16 + c.val) * 64 + j.val
    omega)]
  show (FloatOps.dotGeneral _ _ _ vq vk (ix4 b h r (key c j)) : EReal) * Ideal.div (qs _) (Ideal.sqrt (Ideal.ofBits .f32 0x43000000#32)) * ks _ = _
  rw [Ideal.dotGeneral_apply]
  refine congrArg₂ _ (congrArg₂ _ ?_ (congrArg₂ _ (congrArg qs ?_) rfl)) (congrArg ks ?_)
  · refine Fintype.sum_equiv (contrEquiv1 dot_S2x1024x12x128_S2x1024x12x128_S2x12x1024x1024_3_3_1_1_02_02 128 rfl rfl) _ _ fun k => ?_
    refine congrArg₂ _ (congrArg vq (funext fun a => Fin.ext ?_)) (congrArg vk (funext fun a => Fin.ext ?_)) <;>
      match a with
      | 0 => rfl
      | 1 => rfl
      | 2 => rfl
      | 3 => rfl
  · exact funext fun a => Fin.ext (match a with | 0 => rfl | 1 => rfl)
  · exact funext fun a => Fin.ext (match a with | 0 => rfl | 1 => rfl | 2 => rfl)

/-! ## Masks -/

theorem sle_nat {a b : Nat} (ha : a < 4096) (hb : b < 4096) : IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_ofNat', BitVec.toInt_ofNat', Int.bmod_eq_of_le, Int.bmod_eq_of_le] <;> first | omega | simp
  show BitVec.ofBool _ = _
  rw [e]
  by_cases h : a ≤ b <;> simp [h]

theorem slt_nat {a b : Nat} (ha : a < 4096) (hb : b < 4096) : IntOp.cmpi .slt (BitVec.ofNat 32 a) (BitVec.ofNat 32 b) = if a < b then 1#1 else 0#1 := by
  have e : (BitVec.ofNat 32 a).slt (BitVec.ofNat 32 b) = decide (a < b) := by
    rw [BitVec.slt_eq_decide, BitVec.toInt_ofNat', BitVec.toInt_ofNat', Int.bmod_eq_of_le, Int.bmod_eq_of_le] <;> first | omega | simp
  show BitVec.ofBool _ = _
  rw [e]
  by_cases h : a < b <;> simp [h]

theorem and_if (p q : Prop) [Decidable p] [Decidable q] : IntOp.andi (if p then 1#1 else 0#1) (if q then 1#1 else 0#1) = if p ∧ q then 1#1 else 0#1 := by
  by_cases hp : p <;> by_cases hq : q <;> simp [hp, hq, IntOp.andi]
theorem or_if (p q : Prop) [Decidable p] [Decidable q] : IntOp.ori (if p then 1#1 else 0#1) (if q then 1#1 else 0#1) = if p ∨ q then 1#1 else 0#1 := by
  by_cases hp : p <;> by_cases hq : q <;> simp [hp, hq, IntOp.ori]
theorem not_if (p : Prop) [Decidable p] : ~~~ (if p then 1#1 else 0#1) = if ¬ p then 1#1 else 0#1 := by
  by_cases hp : p <;> simp [hp]
theorem sel_if {α : Type} (c : Prop) [Decidable c] (a b : α) : Scalar.select (if c then 1#1 else 0#1) a b = if c then a else b := by
  split_ifs <;> rfl
theorem first_nat (c : Nat) : IntOp.muli 64#32 (BitVec.ofNat 32 c) = BitVec.ofNat 32 (64 * c) := by
  show 64#32 * BitVec.ofNat 32 c = _
  simp [BitVec.ofNat_mul]
theorem add_nat (a b : Nat) : IntOp.addi (BitVec.ofNat 32 a) (BitVec.ofNat 32 b) = BitVec.ofNat 32 (a + b) := by
  show BitVec.ofNat 32 a + BitVec.ofNat 32 b = _
  simp [BitVec.ofNat_add]

/-- Whether a key is a visible regular key of the query's own block. -/
abbrev Own (r c j : Nat) : Prop := c = r / 64 ∧ j ≤ r % 64 ∧ j < 63
/-- Whether a key is a regular key of an earlier block. -/
abbrev Past (r c j : Nat) : Prop := c < r / 64 ∧ j < 63
/-- Whether a key takes part in the outer softmax. -/
abbrev Outer (r c j : Nat) : Prop := (c = r / 64 ∧ j ≤ r % 64 ∧ j < 63) ∨ (c < r / 64 ∧ ¬ j < 63)

theorem own_at (r : Fin 1024) (c : Fin 16) (j : Fin 64) : own (ix3 r c j) = if Own r c j then 1#1 else 0#1 := by
  show IntOp.andi (IntOp.andi (IntOp.cmpi .sle (IntOp.addi (IntOp.muli 64#32 (BitVec.ofNat 32 c.val)) (BitVec.ofNat 32 j.val)) (BitVec.ofNat 32 r.val))
    (IntOp.cmpi .slt (BitVec.ofNat 32 r.val) (IntOp.addi (IntOp.muli 64#32 (BitVec.ofNat 32 c.val)) (BitVec.ofNat 32 64))))
    (IntOp.cmpi .slt (BitVec.ofNat 32 j.val) (BitVec.ofNat 32 63)) = _
  rw [first_nat, add_nat, add_nat, sle_nat (by omega) (by omega), slt_nat (by omega) (by omega), slt_nat (by omega) (by omega), and_if, and_if]
  exact if_congr (by unfold Own; omega) rfl rfl

theorem past_at (r : Fin 1024) (c : Fin 16) (j : Fin 64) : past (ix3 r c j) = if Past r c j then 1#1 else 0#1 := by
  show IntOp.andi (IntOp.cmpi .sle (IntOp.addi (IntOp.muli 64#32 (BitVec.ofNat 32 c.val)) (BitVec.ofNat 32 64)) (BitVec.ofNat 32 r.val))
    (IntOp.cmpi .slt (BitVec.ofNat 32 j.val) (BitVec.ofNat 32 63)) = _
  rw [first_nat, add_nat, sle_nat (by omega) (by omega), slt_nat (by omega) (by omega), and_if]
  exact if_congr (by unfold Past; omega) rfl rfl

theorem outer_at (r : Fin 1024) (c : Fin 16) (j : Fin 64) : outer (ix3 r c j) = if Outer r c j then 1#1 else 0#1 := by
  show IntOp.ori (own (ix3 r c j)) (IntOp.andi (IntOp.cmpi .sle (IntOp.addi (IntOp.muli 64#32 (BitVec.ofNat 32 c.val)) (BitVec.ofNat 32 64)) (BitVec.ofNat 32 r.val))
    (~~~ (IntOp.cmpi .slt (BitVec.ofNat 32 j.val) (BitVec.ofNat 32 63)))) = _
  rw [own_at, first_nat, add_nat, sle_nat (by omega) (by omega), slt_nat (by omega) (by omega), not_if, and_if, or_if]
  exact if_congr (by unfold Outer Own; omega) rfl rfl

section

variable {sc : FVec Ideal S2x12x1024x16x64 .f32} {s : Nat → ℝ} {b : Fin 2} {h : Fin 12} {r : Fin 1024}
  (hs : ∀ c j, (sc (ix5 b h r c j) : EReal) = ((s (64 * c.val + j.val) : ℝ) : EReal))

include hs

/-- A block's landmark score. -/
theorem lmk_at (c : Fin 16) : (lmk sc (ix5 b h r c 0) : EReal) = ((s (64 * c.val + 63) : ℝ) : EReal) := by
  refine Eq.trans (congrArg sc ?_) (hs c 63)
  exact funext fun a => Fin.ext (match a with | 0 => Nat.zero_add _ | 1 => Nat.zero_add _ | 2 => Nat.zero_add _ | 3 => Nat.zero_add _ | 4 => rfl)

/-- A score that takes part in the outer sum is kept, any other is minus infinity. -/
theorem msk_at (c : Fin 16) (j : Fin 64) : (msk ninf outer sc (ix5 b h r c j) : EReal) = opt (Outer r c j) (s (64 * c.val + j.val)) := by
  refine (congrArg (fun i => Scalar.select (outer i) (sc (ix5 b h r c j)) (Ideal.ofBits .f32 0xFF800000#32 : EReal)) (?_ : _ = ix3 r c j)).trans ?_
  · exact funext fun a => Fin.ext (match a with | 0 => rfl | 1 => rfl | 2 => rfl)
  · rw [outer_at, sel_if, ninf_eq, hs]; rfl

end

end Cert.ReferenceIdeal.Out
-- ==== Proof.RefLse.lean ====
module

public import proofs.«01_k».proof.Proof.RefValue

@[expose] public section

set_option maxRecDepth 16384

noncomputable section

/-! The reference's log sums of exponentials within a block. -/

namespace Cert.ReferenceIdeal.Out

open Idealize.ShloMosaic hiding ix1 ix2 ix3 ix4 ix5 ix6
open Idealize.ShloMosaic.ValueIdx
open Cert.ReferenceIdeal.Gen
open Finset Cert.Soft

/-- A block's scores without the landmark's, and their largest. -/
def reg (sc : FVec Ideal S2x12x1024x16x64 .f32) : FVec Ideal S2x12x1024x16x63 .f32 :=
  extractStridedSlice S2x12x1024x16x63 ![0, 0, 0, 0, 0] sc slices_S2x12x1024x16x64_S2x12x1024x16x63_0_0_0_0_0
def regTop (x : FVec Ideal S2x12x1024x16x63 .f32) : FVec Ideal S2x12x1024x16 .f32 :=
  Host.reduce FloatOps.maximumf x (constant S_ .f32 0xFF800000#32) reducesTo_S2x12x1024x16x63_S2x12x1024x16_d4 h_S_
def regSum (x : FVec Ideal S2x12x1024x16x63 .f32) : FVec Ideal S2x12x1024x16 .f32 :=
  Host.reduceAdd x (constant S_ .f32 0x00000000#32) reducesTo_S2x12x1024x16x63_S2x12x1024x16_d4 h_S_

/-- The log sum, written with the block's largest score and sum named. -/
theorem lse_parts (sc : FVec Ideal S2x12x1024x16x64 .f32) : lse sc =
    addf (broadcastInDim S2x12x1024x16x1 ![0, 1, 2, 3] bcast_S2x12x1024x16_S2x12x1024x16x1_0_1_2_3 (regTop (reg sc)))
      (Host.log (broadcastInDim S2x12x1024x16x1 ![0, 1, 2, 3] bcast_S2x12x1024x16_S2x12x1024x16x1_0_1_2_3
        (regSum (Host.exp (subf (reg sc) (broadcastInDim S2x12x1024x16x63 ![0, 1, 2, 3, 4] bcast_S2x12x1024x16x1_S2x12x1024x16x63_0_1_2_3_4
          (broadcastInDim S2x12x1024x16x1 ![0, 1, 2, 3] bcast_S2x12x1024x16_S2x12x1024x16x1_0_1_2_3 (regTop (reg sc))))))))) := by
  unfold lse regTop regSum reg
  rfl

/-- A sum with a logarithm, at one entry. -/
theorem addlog_at {s : Shape} (x y : FVec Ideal s .f32) (i : s.Idx) : (addf x (Host.log y) i : EReal) = x i + Ideal.log (y i) := rfl

/-- The exponential of a difference, at one entry. -/
theorem expsub_at {s : Shape} (x y : FVec Ideal s .f32) (i : s.Idx) : (Host.exp (subf x y) i : EReal) = Ideal.exp (x i - y i) := rfl

/-- An index is known by its four coordinates. -/
theorem four {i : S2x12x1024x16.Idx} {b : Fin 2} {h : Fin 12} {r : Fin 1024} {c : Fin 16} (h0 : (i 0).val = b.val) (h1 : (i 1).val = h.val)
    (h2 : (i 2).val = r.val) (h3 : (i 3).val = c.val) : i = ix4 b h r c :=
  funext fun a => Fin.ext (match a with | 0 => h0 | 1 => h1 | 2 => h2 | 3 => h3)

/-- A block value with a unit axis added, at one entry. -/
theorem keep_at (T : FVec Ideal S2x12x1024x16 .f32) (b : Fin 2) (h : Fin 12) (r : Fin 1024) (c : Fin 16) :
    broadcastInDim S2x12x1024x16x1 ![0, 1, 2, 3] bcast_S2x12x1024x16_S2x12x1024x16x1_0_1_2_3 T (ix5 b h r c 0) = T (ix4 b h r c) :=
  congrArg T (four rfl rfl rfl rfl)

/-- A block value spread over the block's places, at one entry. -/
theorem spread_at (T : FVec Ideal S2x12x1024x16 .f32) (i : S2x12x1024x16x63.Idx) (b : Fin 2) (h : Fin 12) (r : Fin 1024) (c : Fin 16)
    (h0 : (i 0).val = b.val) (h1 : (i 1).val = h.val) (h2 : (i 2).val = r.val) (h3 : (i 3).val = c.val) :
    broadcastInDim S2x12x1024x16x63 ![0, 1, 2, 3, 4] bcast_S2x12x1024x16x1_S2x12x1024x16x63_0_1_2_3_4
          (broadcastInDim S2x12x1024x16x1 ![0, 1, 2, 3] bcast_S2x12x1024x16_S2x12x1024x16x1_0_1_2_3 T) i = T (ix4 b h r c) :=
  congrArg T (four h0 h1 h2 h3)

/-- The axis the block reductions run over. -/
theorem regReduces : Shape.Reduces S2x12x1024x16x63 [4] S2x12x1024x16 := by decide

/-- The block's largest score is the supremum of its entries. -/
theorem regTop_at (x : FVec Ideal S2x12x1024x16x63 .f32) (b : Fin 2) (h : Fin 12) (r : Fin 1024) (c : Fin 16) (f : Fin 63 → EReal)
    (hx : ∀ k : Fin 63, x (regReduces.lift (ix4 b h r c) k) = f k) : (regTop x (ix4 b h r c) : EReal) = Finset.univ.sup f := by
  unfold regTop
  rw [Host.reduce_eq_fold_single _ _ _ _ regReduces]
  have e : (x ∘ regReduces.lift (ix4 b h r c) : Fin 63 → EReal) = f := funext hx
  refine (congrArg (fun g : Fin 63 → EReal => (Finset.univ : Finset (Fin 63)).fold (FloatOps.maximumf (F := Ideal) (φ := .f32)) (Ideal.ofBits .f32 0xFF800000#32) g) e).trans ?_
  rw [ninf_eq]
  rfl

/-- The block's sum is the sum of its entries. -/
theorem regSum_at (x : FVec Ideal S2x12x1024x16x63 .f32) (b : Fin 2) (h : Fin 12) (r : Fin 1024) (c : Fin 16) (f : Fin 63 → EReal)
    (hx : ∀ k : Fin 63, x (regReduces.lift (ix4 b h r c) k) = f k) : (regSum x (ix4 b h r c) : EReal) = 0 + ∑ k, f k := by
  have e : (regSum x (ix4 b h r c) : EReal) = Ideal.hostReduceAdd reducesTo_S2x12x1024x16x63_S2x12x1024x16_d4 x (Ideal.ofBits .f32 0x00000000#32) (ix4 b h r c) := rfl
  rw [e, Ideal.hostReduceAdd_single _ regReduces, zero_eq]
  exact congrArg (0 + ·) (Finset.sum_congr rfl fun k _ => hx k)

section

variable {sc : FVec Ideal S2x12x1024x16x64 .f32} {s : Nat → ℝ} {b : Fin 2} {h : Fin 12} {r : Fin 1024}
  (hs : ∀ c j, (sc (ix5 b h r c j) : EReal) = ((s (64 * c.val + j.val) : ℝ) : EReal))

include hs

/-- A block's log sum of exponentials. -/
theorem lse_at (c : Fin 16) : (lse sc (ix5 b h r c 0) : EReal) = ((Real.log (den s c.val) : ℝ) : EReal) := by
  have hx : ∀ k : Fin 63, (reg sc (regReduces.lift (ix4 b h r c) k) : EReal) = opt (True) (s (64 * c.val + k.val)) := by
    intro k
    refine Eq.trans (congrArg sc ?_) (hs c ⟨k.val, by omega⟩)
    exact funext fun a => Fin.ext (match a with | 0 => Nat.zero_add _ | 1 => Nat.zero_add _ | 2 => Nat.zero_add _ | 3 => Nat.zero_add _ | 4 => Nat.zero_add _)
  obtain ⟨m, hm⟩ := sup_real (Finset.univ : Finset (Fin 63)) (fun _ => True) (fun k => s (64 * c.val + k.val)) ⟨0, by simp, trivial⟩
  have hmax : (regTop (reg sc) (ix4 b h r c) : EReal) = m := (regTop_at _ b h r c _ hx).trans hm
  rw [lse_parts]
  generalize regTop (reg sc) = T at *
  generalize reg sc = R at *
  refine (addlog_at _ _ _).trans ?_
  rw [keep_at, keep_at, hmax, regSum_at _ b h r c (fun k => Ideal.exp (opt True (s (64 * c.val + k.val)) - (m : EReal))) fun k => ?_]
  · refine (lse_eq (Finset.univ : Finset (Fin 63)) (fun _ => True) (fun k => s (64 * c.val + k.val)) ⟨0, by simp, trivial⟩ m).trans ?_
    refine congrArg _ (congrArg Real.log ?_)
    unfold den
    rw [Finset.sum_range_succ, if_neg (by omega), add_zero, ← Fin.sum_univ_eq_sum_range (fun j => if j < 63 then Real.exp (s (64 * c.val + j)) else 0)]
    exact Finset.sum_congr rfl fun k _ => by rw [if_pos trivial, if_pos k.isLt]
  · refine (expsub_at _ _ _).trans ?_
    rw [spread_at T _ b h r c rfl rfl rfl rfl, hx k, hmax]

end

end Cert.ReferenceIdeal.Out
-- ==== Proof.RefTot.lean ====
module

public import proofs.«01_k».proof.Proof.RefLse

@[expose] public section

set_option maxRecDepth 16384

noncomputable section

/-! The reference's outer log sum of exponentials. -/

namespace Cert.ReferenceIdeal.Out

open Idealize.ShloMosaic hiding ix1 ix2 ix3 ix4 ix5 ix6
open Idealize.ShloMosaic.ValueIdx
open Cert.ReferenceIdeal.Gen
open Finset Cert.Soft

/-- The largest of the scores that count in the outer sum, and a sum over all blocks. -/
def outTop (x : FVec Ideal S2x12x1024x16x64 .f32) : FVec Ideal S2x12x1024 .f32 :=
  Host.reduce FloatOps.maximumf x (constant S_ .f32 0xFF800000#32) reducesTo_S2x12x1024x16x64_S2x12x1024_d3_4 h_S_
def outSum (x : FVec Ideal S2x12x1024x16x64 .f32) : FVec Ideal S2x12x1024 .f32 :=
  Host.reduceAdd x (constant S_ .f32 0x00000000#32) reducesTo_S2x12x1024x16x64_S2x12x1024_d3_4 h_S_

/-- The outer log sum, written with the largest score and the sum named. -/
theorem tot_parts (x : FVec Ideal S2x12x1024x16x64 .f32) : Out.tot x =
    addf (broadcastInDim S2x12x1024x1x1 ![0, 1, 2] bcast_S2x12x1024_S2x12x1024x1x1_0_1_2 (outTop x))
      (Host.log (broadcastInDim S2x12x1024x1x1 ![0, 1, 2] bcast_S2x12x1024_S2x12x1024x1x1_0_1_2
        (outSum (Host.exp (subf x (broadcastInDim S2x12x1024x16x64 ![0, 1, 2, 3, 4] bcast_S2x12x1024x1x1_S2x12x1024x16x64_0_1_2_3_4
          (broadcastInDim S2x12x1024x1x1 ![0, 1, 2] bcast_S2x12x1024_S2x12x1024x1x1_0_1_2 (outTop x)))))))) := by
  unfold Out.tot outTop outSum
  rfl

/-- An index is known by its three coordinates. -/
theorem three {i : S2x12x1024.Idx} {b : Fin 2} {h : Fin 12} {r : Fin 1024} (h0 : (i 0).val = b.val) (h1 : (i 1).val = h.val)
    (h2 : (i 2).val = r.val) : i = ix3 b h r :=
  funext fun a => Fin.ext (match a with | 0 => h0 | 1 => h1 | 2 => h2)

/-- A query value with unit axes added, at one entry. -/
theorem keepOut_at (T : FVec Ideal S2x12x1024 .f32) (b : Fin 2) (h : Fin 12) (r : Fin 1024) :
    broadcastInDim S2x12x1024x1x1 ![0, 1, 2] bcast_S2x12x1024_S2x12x1024x1x1_0_1_2 T (ix5 b h r 0 0) = T (ix3 b h r) :=
  congrArg T (three rfl rfl rfl)

/-- A query value spread over blocks and places, at one entry. -/
theorem spreadOut_at (T : FVec Ideal S2x12x1024 .f32) (b : Fin 2) (h : Fin 12) (r : Fin 1024) (c : Fin 16) (j : Fin 64) :
    broadcastInDim S2x12x1024x16x64 ![0, 1, 2, 3, 4] bcast_S2x12x1024x1x1_S2x12x1024x16x64_0_1_2_3_4
          (broadcastInDim S2x12x1024x1x1 ![0, 1, 2] bcast_S2x12x1024_S2x12x1024x1x1_0_1_2 T) (ix5 b h r c j) = T (ix3 b h r) :=
  congrArg T (three rfl rfl rfl)

/-- Folding the maximum from minus infinity is the supremum. -/
theorem fold_sup {ι : Type} (st : Finset ι) (f : ι → EReal) {init : EReal} (h : init = ⊥) :
    Finset.fold (FloatOps.maximumf (F := Ideal) (φ := .f32)) init f st = st.sup f := by
  subst h
  rfl

/-- The entries of one query, over blocks and places. -/
def fibre (b : Fin 2) (h : Fin 12) (r : Fin 1024) : Finset S2x12x1024x16x64.Idx :=
  Finset.univ.filter fun i => reducesTo_S2x12x1024x16x64_S2x12x1024_d3_4.drop i = ix3 b h r

/-- The outer reductions keep the first three coordinates. -/
theorem drop_at (i : S2x12x1024x16x64.Idx) : reducesTo_S2x12x1024x16x64_S2x12x1024_d3_4.drop i = ix3 (i 0) (i 1) (i 2) :=
  funext fun a => Fin.ext (match a with | 0 => rfl | 1 => rfl | 2 => rfl)

/-- Membership among one query's entries. -/
theorem mem_fibre (b : Fin 2) (h : Fin 12) (r : Fin 1024) (i : S2x12x1024x16x64.Idx) : i ∈ fibre b h r ↔ i = ix5 b h r (i 3) (i 4) := by
  unfold fibre
  rw [Finset.mem_filter, drop_at]
  constructor
  · rintro ⟨_, e⟩
    have h0 : i 0 = b := congrFun e 0
    have h1 : i 1 = h := congrFun e 1
    have h2 : i 2 = r := congrFun e 2
    exact funext fun a => match a with | 0 => h0 | 1 => h1 | 2 => h2 | 3 => rfl | 4 => rfl
  · intro e
    refine ⟨Finset.mem_univ _, ?_⟩
    have h0 : i 0 = b := congrFun e 0
    have h1 : i 1 = h := congrFun e 1
    have h2 : i 2 = r := congrFun e 2
    exact funext fun a => match a with | 0 => h0 | 1 => h1 | 2 => h2

/-- The outer maximum is the supremum over one query's entries. -/
theorem outTop_fibre (x : FVec Ideal S2x12x1024x16x64 .f32) (b : Fin 2) (h : Fin 12) (r : Fin 1024) :
    (outTop x (ix3 b h r) : EReal) = (fibre b h r).sup fun i => (x i : EReal) := by
  unfold outTop fibre
  rw [Host.reduce_eq_fold]
  exact fold_sup _ _ ninf_eq

/-- The outer sum is the sum over one query's entries. -/
theorem outSum_fibre (x : FVec Ideal S2x12x1024x16x64 .f32) (b : Fin 2) (h : Fin 12) (r : Fin 1024) :
    (outSum x (ix3 b h r) : EReal) = 0 + ∑ i ∈ fibre b h r, (x i : EReal) := by
  have e : (outSum x (ix3 b h r) : EReal) = Ideal.hostReduceAdd reducesTo_S2x12x1024x16x64_S2x12x1024_d3_4 x (Ideal.ofBits .f32 0x00000000#32) (ix3 b h r) := rfl
  rw [e, zero_eq]
  unfold Ideal.hostReduceAdd fibre
  rfl

/-- A sum over the entries of one query is a sum over blocks and places. -/
theorem sum_fibre (b : Fin 2) (h : Fin 12) (r : Fin 1024) (f : Nat → Nat → ℝ) :
    ∑ i ∈ fibre b h r, f (i 3).val (i 4).val = ∑ c ∈ Finset.range 16, ∑ j ∈ Finset.range 64, f c j := by
  rw [← Fin.sum_univ_eq_sum_range (fun c => ∑ j ∈ Finset.range 64, f c j)]
  rw [Finset.sum_congr rfl fun (c : Fin 16) _ => (Fin.sum_univ_eq_sum_range (fun j => f c.val j) 64).symm]
  rw [← Fintype.sum_prod_type' (fun (c : Fin 16) (j : Fin 64) => f c.val j.val)]
  exact Finset.sum_nbij' (fun i => ((i 3, i 4) : Fin 16 × Fin 64)) (fun q => ix5 b h r q.1 q.2) (fun i _ => Finset.mem_univ _)
    (fun q _ => (mem_fibre b h r _).2 rfl) (fun i hi => ((mem_fibre b h r i).1 hi).symm) (fun q _ => rfl) (fun i _ => rfl)

section

variable {sc : FVec Ideal S2x12x1024x16x64 .f32} {s : Nat → ℝ} {b : Fin 2} {h : Fin 12} {r : Fin 1024}
  (hs : ∀ c j, (sc (ix5 b h r c j) : EReal) = ((s (64 * c.val + j.val) : ℝ) : EReal))

include hs

/-- The outer log sum of exponentials. -/
theorem tot_at : (Out.tot (msk ninf outer sc) (ix5 b h r 0 0) : EReal) = ((Real.log (Soft.tot s r.val) : ℝ) : EReal) := by
  have hx : ∀ (c : Fin 16) (j : Fin 64), (msk ninf outer sc (ix5 b h r c j) : EReal) = opt (Outer r.val c.val j.val) (s (64 * c.val + j.val)) := msk_at hs
  rw [tot_parts]
  generalize msk ninf outer sc = x at *
  have hx' : ∀ i ∈ fibre b h r, (x i : EReal) = opt (Outer r.val (i 3).val (i 4).val) (s (64 * (i 3).val + (i 4).val)) := fun i hi =>
    (congrArg x ((mem_fibre b h r i).1 hi)).trans (hx (i 3) (i 4))
  have hne : ∃ i ∈ fibre b h r, Outer r.val (i 3).val (i 4).val := ⟨ix5 b h r ⟨r.val / 64, by omega⟩ 0, (mem_fibre b h r _).2 rfl,
    Or.inl ⟨rfl, Nat.zero_le _, (show (0 : Nat) < 63 by omega)⟩⟩
  have hsum := sum_fibre b h r fun c j => if Outer r.val c j then Real.exp (s (64 * c + j)) else 0
  have hT := outTop_fibre x b h r
  have hmem := mem_fibre b h r
  have hS := outSum_fibre (Host.exp (subf x (broadcastInDim S2x12x1024x16x64 ![0, 1, 2, 3, 4] bcast_S2x12x1024x1x1_S2x12x1024x16x64_0_1_2_3_4
          (broadcastInDim S2x12x1024x1x1 ![0, 1, 2] bcast_S2x12x1024_S2x12x1024x1x1_0_1_2 (outTop x))))) b h r
  generalize fibre b h r = st at *
  generalize outTop x = T at *
  obtain ⟨m, hm⟩ := sup_real st (fun i => Outer r.val (i 3).val (i 4).val) (fun i => s (64 * (i 3).val + (i 4).val)) hne
  have hmax : (T (ix3 b h r) : EReal) = m := (hT.trans (Finset.sup_congr rfl hx')).trans hm
  refine (addlog_at _ _ _).trans ?_
  rw [keepOut_at, keepOut_at, hmax, hS]
  have e' : ∀ i ∈ st, (Host.exp (subf x (broadcastInDim S2x12x1024x16x64 ![0, 1, 2, 3, 4] bcast_S2x12x1024x1x1_S2x12x1024x16x64_0_1_2_3_4
          (broadcastInDim S2x12x1024x1x1 ![0, 1, 2] bcast_S2x12x1024_S2x12x1024x1x1_0_1_2 T))) i : EReal) =
      Ideal.exp (opt (Outer r.val (i 3).val (i 4).val) (s (64 * (i 3).val + (i 4).val)) - (m : EReal)) := fun i hi => by
    refine (expsub_at _ _ _).trans ?_
    refine congrArg Ideal.exp (congrArg₂ (fun u w : EReal => u - w) (hx' i hi) ?_)
    exact ((congrArg _ ((hmem i).1 hi)).trans (spreadOut_at T b h r (i 3) (i 4))).trans hmax
  refine Eq.trans (congrArg (fun x => (m : EReal) + Ideal.log (0 + x)) (Finset.sum_congr rfl e'))
    ((lse_eq st (fun i => Outer r.val (i 3).val (i 4).val) (fun i => s (64 * (i 3).val + (i 4).val)) hne m).trans ?_)
  refine congrArg _ (congrArg Real.log ?_)
  exact hsum.trans (tot_eq s r.val).symm

end

end Cert.ReferenceIdeal.Out
-- ==== Proof.RefArg.lean ====
module

public import proofs.«01_k».proof.Proof.RefTot

@[expose] public section

set_option maxRecDepth 16384

noncomputable section

/-! The reference's weights. -/

namespace Cert.ReferenceIdeal.Out

open Idealize.ShloMosaic hiding ix1 ix2 ix3 ix4 ix5 ix6
open Idealize.ShloMosaic.ValueIdx
open Cert.ReferenceIdeal.Gen
open Finset Cert.Soft

/-- The pieces of the argument at one entry, from any log sums. -/
theorem arg_at (own past : IVec S1024x16x64 1) (sc : FVec Ideal S2x12x1024x16x64 .f32) (l m : FVec Ideal S2x12x1024x16x1 .f32)
    (t : FVec Ideal S2x12x1024x1x1 .f32) (b : Fin 2) (h : Fin 12) (r : Fin 1024) (c : Fin 16) (j : Fin 64) :
    (arg own (ownArg sc t) (arg1 ninf8 past (pastArg sc l m t)) (ix5 b h r c j) : EReal) =
      Scalar.select (own (ix3 r c j)) ((sc (ix5 b h r c j) : EReal) - t (ix5 b h r 0 0))
        (Scalar.select (past (ix3 r c j)) ((m (ix5 b h r c 0) : EReal) - t (ix5 b h r 0 0) + sc (ix5 b h r c j) - l (ix5 b h r c 0))
          (Ideal.ofBits .f32 0xFF800000#32 : EReal)) := by
  have eo : ∀ i : S1024x16x64.Idx, (i 0).val = r.val → (i 1).val = c.val → (i 2).val = j.val → i = ix3 r c j := fun i h0 h1 h2 =>
    funext fun a => Fin.ext (match a with | 0 => h0 | 1 => h1 | 2 => h2)
  have e1 : ∀ i : S2x12x1024x16x1.Idx, (i 0).val = b.val → (i 1).val = h.val → (i 2).val = r.val → (i 3).val = c.val → i = ix5 b h r c 0 :=
    fun i h0 h1 h2 h3 => by
      have h4 : (i 4).val = 0 := by
        have : (i 4).val < 1 := (i 4).isLt
        omega
      exact funext fun a => Fin.ext (match a with | 0 => h0 | 1 => h1 | 2 => h2 | 3 => h3 | 4 => h4)
  have e2 : ∀ i : S2x12x1024x1x1.Idx, (i 0).val = b.val → (i 1).val = h.val → (i 2).val = r.val → i = ix5 b h r 0 0 := fun i h0 h1 h2 => by
    have h3 : (i 3).val = 0 := by
      have : (i 3).val < 1 := (i 3).isLt
      omega
    have h4 : (i 4).val = 0 := by
      have : (i 4).val < 1 := (i 4).isLt
      omega
    exact funext fun a => Fin.ext (match a with | 0 => h0 | 1 => h1 | 2 => h2 | 3 => h3 | 4 => h4)
  have hown : (ownArg sc t (ix5 b h r c j) : EReal) = (sc (ix5 b h r c j) : EReal) - t (ix5 b h r 0 0) :=
    congrArg (fun i => (sc (ix5 b h r c j) : EReal) - t i) (e2 _ rfl rfl rfl)
  have hpast : (pastArg sc l m t (ix5 b h r c j) : EReal) =
      (m (ix5 b h r c 0) : EReal) - t (ix5 b h r 0 0) + sc (ix5 b h r c j) - l (ix5 b h r c 0) := by
    refine Eq.trans (congrArg₂ (fun i i' => ((m i : EReal) - t i' + sc (ix5 b h r c j) - l i : EReal)) (e1 _ rfl rfl rfl rfl)
      (e2 _ rfl rfl rfl)) rfl
  refine Eq.trans (congrArg (fun i => (Scalar.select (own i) (ownArg sc t (ix5 b h r c j) : EReal)
    (Scalar.select (past i) (pastArg sc l m t (ix5 b h r c j) : EReal) (Ideal.ofBits .f32 0xFF800000#32 : EReal)) : EReal))
    (eo _ rfl rfl rfl)) ?_
  rw [hown, hpast]

section

variable {sc : FVec Ideal S2x12x1024x16x64 .f32} {s : Nat → ℝ} {b : Fin 2} {h : Fin 12} {r : Fin 1024}
  (hs : ∀ c j, (sc (ix5 b h r c j) : EReal) = ((s (64 * c.val + j.val) : ℝ) : EReal))

include hs

/-- The exponential of the argument is the weight. -/
theorem exp_arg_at (c : Fin 16) (j : Fin 64) :
    Ideal.exp (arg own (ownArg sc (Out.tot (msk ninf outer sc))) (arg1 ninf8 past (pastArg sc (lse sc) (lmk sc) (Out.tot (msk ninf outer sc)))) (ix5 b h r c j)) =
      ((W s r.val (64 * c.val + j.val) : ℝ) : EReal) := by
  have ht := tot_pos s r.val r.isLt
  have hd := den_pos s c.val
  have hk1 : (64 * c.val + j.val) / 64 = c.val := by omega
  have hk2 : (64 * c.val + j.val) % 64 = j.val := by omega
  refine (congrArg Ideal.exp (arg_at own past sc (lse sc) (lmk sc) (Out.tot (msk ninf outer sc)) b h r c j)).trans ?_
  rw [own_at, past_at, sel_if, sel_if, tot_at hs, hs, lmk_at hs, lse_at hs, ninf_eq, ← EReal.coe_sub, ← EReal.coe_sub, ← EReal.coe_add, ← EReal.coe_sub]
  unfold W
  rw [hk1, hk2]
  by_cases ho : Own r.val c.val j.val
  · rw [if_pos ho, if_pos ho, Ideal.exp_coe, Real.exp_sub, Real.exp_log ht]
  · rw [if_neg ho, if_neg ho]
    by_cases hp : Past r.val c.val j.val
    · rw [if_pos hp, if_pos hp, Ideal.exp_coe, Real.exp_sub, Real.exp_add, Real.exp_sub, Real.exp_log ht, Real.exp_log hd]
      refine congrArg _ ?_
      have := ht.ne'
      have := hd.ne'
      field_simp
    · rw [if_neg hp, if_neg hp, Ideal.exp_bot]; rfl

end

end Cert.ReferenceIdeal.Out
-- ==== Proof.RefOut.lean ====
module

public import proofs.«01_k».proof.Proof.RefValue

@[expose] public section

set_option maxRecDepth 16384

noncomputable section

/-! The reference's result as a sum over the keys. -/

namespace Cert.ReferenceIdeal.Out

open Idealize.ShloMosaic hiding ix1 ix2 ix3 ix4 ix5 ix6
open Idealize.ShloMosaic.ValueIdx
open Cert.ReferenceIdeal.Gen
open Finset Cert.Soft

/-- A format change is the identity. -/
theorem trunc_at {s : Shape} (x : FVec Ideal s .f32) (i : s.Idx) : (truncf .bf16 x bitsLt_bf16_f32 i : EReal) = x i := rfl

/-- A product with its format changed, at one entry. -/
theorem weighted_at {s : Shape} (x y : FVec Ideal s .f32) (i : s.Idx) : (truncf .bf16 (mulf x y) bitsLt_bf16_f32 i : EReal) = x i * y i := rfl

/-- An exponential at one entry. -/
theorem exp_at {s : Shape} (x : FVec Ideal s .f32) (i : s.Idx) : (Host.exp x i : EReal) = Ideal.exp (x i) := rfl

/-- The product of values and weights, a sum over the keys. -/
theorem out_dot (vv : FVec Ideal S2x1024x12x128 .bf16) (w : FVec Ideal S2x12x1024x1024 .bf16) (b : Fin 2) (h : Fin 12) (r : Fin 1024) (d : Fin 128) :
    (FloatOps.dotGeneral dot_S2x1024x12x128_S2x12x1024x1024_S2x12x128x1024_1_3_3_2_02_01 none .single vv w (ix4 b h d r) : EReal) =
      ∑ k : Fin 1024, (vv (ix4 b k h d) : EReal) * w (ix4 b h r k) := by
  rw [Ideal.dotGeneral_apply]
  refine Fintype.sum_equiv (contrEquiv1 dot_S2x1024x12x128_S2x12x1024x1024_S2x12x128x1024_1_3_3_2_02_01 1024 rfl rfl) _ _ fun q => ?_
  refine congrArg₂ _ (congrArg vv (funext fun a => Fin.ext ?_)) (congrArg w (funext fun a => Fin.ext ?_)) <;>
      match a with
      | 0 => rfl
      | 1 => rfl
      | 2 => rfl
      | 3 => rfl

/-- Blocks and places flattened to keys. -/
theorem flat_at (x : FVec Ideal S2x12x1024x16x64 .f32) (b : Fin 2) (h : Fin 12) (r : Fin 1024) (k : Fin 1024) :
    shapeCast S2x12x1024x1024 x shapeCasts_S2x12x1024x16x64_S2x12x1024x1024 (ix4 b h r k) = x (ix5 b h r ⟨k.val / 64, by omega⟩ ⟨k.val % 64, by omega⟩) :=
  shapeCast_apply _ _ _ _ (by
    rw [Shape.rowMajor_val_four, Shape.rowMajor_val_five]
    show (((b.val * 12 + h.val) * 1024 + r.val) * 16 + k.val / 64) * 64 + k.val % 64 = ((b.val * 12 + h.val) * 1024 + r.val) * 1024 + k.val
    omega)

/-- A value's scale spread over the queries. -/
theorem scale_at (vs : FVec Ideal S2x1024x12 .f32) (b : Fin 2) (h : Fin 12) (r : Fin 1024) (k : Fin 1024) :
    broadcastInDim S2x12x1024x1024 ![0, 1, 2, 3] bcast_S2x12x1x1024_S2x12x1024x1024_0_1_2_3 (broadcastInDim S2x12x1x1024 ![0, 1, 3] bcast_S2x12x1024_S2x12x1x1024_0_1_3
      (transpose S2x12x1024 [0, 2, 1] vs transposes_S2x1024x12_S2x12x1024_0_2_1)) (ix4 b h r k) = vs (ix3 b k h) :=
  congrArg vs (funext fun a => Fin.ext (match a with | 0 => rfl | 1 => rfl | 2 => rfl))

/-- The result with the query axis moved back. -/
theorem back_at (y : FVec Ideal S2x12x128x1024 .f32) (b : Fin 2) (h : Fin 12) (r : Fin 1024) (d : Fin 128) :
    transpose S2x1024x12x128 [0, 3, 1, 2] y transposes_S2x12x128x1024_S2x1024x12x128_0_3_1_2 (ix4 b r h d) = y (ix4 b h d r) :=
  congrArg y (funext fun a => Fin.ext (match a with | 0 => rfl | 1 => rfl | 2 => rfl | 3 => rfl))

/-- Heads and columns joined. -/
theorem join_at (y : FVec Ideal S2x1024x12x128 .bf16) (b : Fin 2) (h : Fin 12) (r : Fin 1024) (d : Fin 128) :
    shapeCast S2x1024x1536 y shapeCasts_S2x1024x12x128_S2x1024x1536 (ix3 b r ⟨128 * h.val + d.val, by omega⟩) = y (ix4 b r h d) :=
  shapeCast_apply _ _ _ _ (by
    rw [Shape.rowMajor_val_four, Shape.rowMajor_val_three]
    show ((b.val * 1024 + r.val) * 12 + h.val) * 128 + d.val = (b.val * 1024 + r.val) * 1536 + (128 * h.val + d.val)
    omega)

/-- The result, a sum over the keys. -/
theorem outp_at (x : FVec Ideal S2x12x1024x16x64 .f32) (vs : FVec Ideal S2x1024x12 .f32) (vv : FVec Ideal S2x1024x12x128 .bf16)
    (b : Fin 2) (h : Fin 12) (r : Fin 1024) (d : Fin 128) :
    (outp x vs vv (ix3 b r ⟨128 * h.val + d.val, by omega⟩) : EReal) =
      ∑ k : Fin 1024, (vv (ix4 b k h d) : EReal) * (Ideal.exp (x (ix5 b h r ⟨k.val / 64, by omega⟩ ⟨k.val % 64, by omega⟩)) * vs (ix3 b k h)) := by
  unfold outp
  beta_reduce
  rw [join_at]
  refine (trunc_at _ _).trans ?_
  refine (back_at _ b h r d).trans ?_
  refine (out_dot vv _ b h r d).trans ?_
  refine Finset.sum_congr rfl fun k _ => congrArg (vv (ix4 b k h d) * ·) ?_
  refine (weighted_at _ _ _).trans ?_
  exact congrArg₂ (fun x y : EReal => x * y) ((flat_at (Host.exp x) b h r k).trans (exp_at x _)) (scale_at vs b h r k)

end Cert.ReferenceIdeal.Out
-- ==== Proof.RefRun.lean ====
module

public import proofs.«01_k».proof.Proof.RefRead
public import Idealize.ShloMosaic.Lib.Pipeline.Value
public import Idealize.ShloMosaic.Lib.Pointwise.Reshape

@[expose] public section

set_option maxRecDepth 16384

noncomputable section

namespace Cert.ReferenceIdeal.Out

open Idealize.ShloMosaic Idealize.ShloMosaic.TcCoe Idealize.ShloMosaic.Tactic
open Idealize.SL Idealize.SL.Sem
open Idealize.ShloMosaic.Pipeline (Dat)
open Cert.ReferenceIdeal.Gen

variable (m : (ℓ : Loc nD τ sig) → Buf (Elt Ideal) ℓ) (ρ : Dev nD → PrngReg)

/-- The value of a code at its bit pattern. -/
def val (a : S2x1024x12x128.Idx → BitVec 8) : S2x1024x12x128.Idx → EReal := bitcastToFloat (F := Ideal) (s := S2x1024x12x128) .fp8e4m3 a

theorem V_v0 (c : Dev nD) : (V m c main_v0 : S2x1024x12x128.Idx → EReal) = val (m (c, Proc.tc.devRef main_arg0)) := by
  entry_read; rfl

theorem i0 (c : Dev nD) (t : Fin cfg0.N) : (iblk m c 0 t : S2x1024x12x128.Idx → EReal) = val (m (c, Proc.tc.devRef main_arg0)) := by
  have h : ∀ t : Fin cfg0.N, win0_0.index t = ![0, 0, 0, 0] := (by decide +kernel : ∀ t : Fin grid0.N, _)
  refine Eq.trans (funext fun y => ?_) (V_v0 m c)
  refine congrArg (V m c main_v0) (funext fun a => Fin.ext ?_)
  match a with
  | ⟨0, _⟩ => show win0_0.index t 0 * 2 + 1 * (y 0).val = (y 0).val; rw [h]; show 0 * 2 + 1 * (y 0).val = _; omega
  | ⟨1, _⟩ => show win0_0.index t 1 * 1024 + 1 * (y 1).val = (y 1).val; rw [h]; show 0 * 1024 + 1 * (y 1).val = _; omega
  | ⟨2, _⟩ => show win0_0.index t 2 * 12 + 1 * (y 2).val = (y 2).val; rw [h]; show 0 * 12 + 1 * (y 2).val = _; omega
  | ⟨3, _⟩ => show win0_0.index t 3 * 128 + 1 * (y 3).val = (y 3).val; rw [h]; show 0 * 128 + 1 * (y 3).val = _; omega

theorem o0 (x0 x1 x2 : Vec Ideal S2x1024x12x128 .fp8e4m3) : (out0_3 x0 x1 x2 : S2x1024x12x128.Idx → EReal) = x0 := by
  have h0 : (![0, 0, 0, 0] : Fin 4 → Nat) = fun _ => 0 := by decide
  unfold out0_3
  refine (View.canon_unit_zero h0 _ _).trans ?_
  unfold k0_pay1
  rw [View.ld_unit_zero h0]
  exact shapeCast_id _ _

theorem final0 (c : Dev nD) : ((dats m 0 c).arrAt 3 cfg0.N : S2x1024x12x128.Idx → EReal) = val (m (c, Proc.tc.devRef main_arg0)) := by
  have h : ∀ t : Fin cfg0.N, win0_3.index t = ![0, 0, 0, 0] := (by decide +kernel : ∀ t : Fin grid0.N, _)
  have emb : ∀ (t : Fin cfg0.N) (y : S2x1024x12x128.Idx), ((cfg0.win 3).blk t).view.emb y = y := fun t y => by
    refine funext fun a => Fin.ext ?_
    match a with
    | ⟨0, _⟩ => show win0_3.index t 0 * 2 + 1 * (y 0).val = (y 0).val; rw [h]; show 0 * 2 + 1 * (y 0).val = _; omega
    | ⟨1, _⟩ => show win0_3.index t 1 * 1024 + 1 * (y 1).val = (y 1).val; rw [h]; show 0 * 1024 + 1 * (y 1).val = _; omega
    | ⟨2, _⟩ => show win0_3.index t 2 * 12 + 1 * (y 2).val = (y 2).val; rw [h]; show 0 * 12 + 1 * (y 2).val = _; omega
    | ⟨3, _⟩ => show win0_3.index t 3 * 128 + 1 * (y 3).val = (y 3).val; rw [h]; show 0 * 128 + 1 * (y 3).val = _; omega
  refine (dats m 0 c).arrAt_eq_of_cover 3 _ (fun t _ => ?_) fun i => ⟨t0_0, (by decide +kernel : win0_3.flush t0_0 = true), ?_⟩
  · show (cfg0.win 3).cut (grid0.coords t) ((dats m 0 c).after 3 t) = _
    rw [after0_3]
    funext y
    show (out0_3 (iblk m c 0 t) (iblk m c 1 t) (iblk m c 2 t) ((cfg0.win 3).xinj (grid0.coords t) y) : EReal) = val _ (((cfg0.win 3).blk t).view.emb y)
    rw [o0, i0]
    exact congrArg (val _) (emb t y).symm
  · have h := View.emb_mem_set ((cfg0.win 3).blk t0_0).view i
    rwa [emb t0_0 i] at h

theorem V_v1 (c : Dev nD) : (V m c main_v1 : S2x1024x12x128.Idx → EReal) = val (m (c, Proc.tc.devRef main_arg2)) := by
  entry_read; rfl

theorem i1 (c : Dev nD) (t : Fin cfg0.N) : (iblk m c 1 t : S2x1024x12x128.Idx → EReal) = val (m (c, Proc.tc.devRef main_arg2)) := by
  have h : ∀ t : Fin cfg0.N, win0_1.index t = ![0, 0, 0, 0] := (by decide +kernel : ∀ t : Fin grid0.N, _)
  refine Eq.trans (funext fun y => ?_) (V_v1 m c)
  refine congrArg (V m c main_v1) (funext fun a => Fin.ext ?_)
  match a with
  | ⟨0, _⟩ => show win0_1.index t 0 * 2 + 1 * (y 0).val = (y 0).val; rw [h]; show 0 * 2 + 1 * (y 0).val = _; omega
  | ⟨1, _⟩ => show win0_1.index t 1 * 1024 + 1 * (y 1).val = (y 1).val; rw [h]; show 0 * 1024 + 1 * (y 1).val = _; omega
  | ⟨2, _⟩ => show win0_1.index t 2 * 12 + 1 * (y 2).val = (y 2).val; rw [h]; show 0 * 12 + 1 * (y 2).val = _; omega
  | ⟨3, _⟩ => show win0_1.index t 3 * 128 + 1 * (y 3).val = (y 3).val; rw [h]; show 0 * 128 + 1 * (y 3).val = _; omega

theorem o1 (x0 x1 x2 : Vec Ideal S2x1024x12x128 .fp8e4m3) : (out0_4 x0 x1 x2 : S2x1024x12x128.Idx → EReal) = x1 := by
  have h0 : (![0, 0, 0, 0] : Fin 4 → Nat) = fun _ => 0 := by decide
  unfold out0_4
  refine (View.canon_unit_zero h0 _ _).trans ?_
  unfold k0_pay2
  rw [View.ld_unit_zero h0]
  exact shapeCast_id _ _

theorem final1 (c : Dev nD) : ((dats m 0 c).arrAt 4 cfg0.N : S2x1024x12x128.Idx → EReal) = val (m (c, Proc.tc.devRef main_arg2)) := by
  have h : ∀ t : Fin cfg0.N, win0_4.index t = ![0, 0, 0, 0] := (by decide +kernel : ∀ t : Fin grid0.N, _)
  have emb : ∀ (t : Fin cfg0.N) (y : S2x1024x12x128.Idx), ((cfg0.win 4).blk t).view.emb y = y := fun t y => by
    refine funext fun a => Fin.ext ?_
    match a with
    | ⟨0, _⟩ => show win0_4.index t 0 * 2 + 1 * (y 0).val = (y 0).val; rw [h]; show 0 * 2 + 1 * (y 0).val = _; omega
    | ⟨1, _⟩ => show win0_4.index t 1 * 1024 + 1 * (y 1).val = (y 1).val; rw [h]; show 0 * 1024 + 1 * (y 1).val = _; omega
    | ⟨2, _⟩ => show win0_4.index t 2 * 12 + 1 * (y 2).val = (y 2).val; rw [h]; show 0 * 12 + 1 * (y 2).val = _; omega
    | ⟨3, _⟩ => show win0_4.index t 3 * 128 + 1 * (y 3).val = (y 3).val; rw [h]; show 0 * 128 + 1 * (y 3).val = _; omega
  refine (dats m 0 c).arrAt_eq_of_cover 4 _ (fun t _ => ?_) fun i => ⟨t0_0, (by decide +kernel : win0_4.flush t0_0 = true), ?_⟩
  · show (cfg0.win 4).cut (grid0.coords t) ((dats m 0 c).after 4 t) = _
    rw [after0_4]
    funext y
    show (out0_4 (iblk m c 0 t) (iblk m c 1 t) (iblk m c 2 t) ((cfg0.win 4).xinj (grid0.coords t) y) : EReal) = val _ (((cfg0.win 4).blk t).view.emb y)
    rw [o1, i1]
    exact congrArg (val _) (emb t y).symm
  · have h := View.emb_mem_set ((cfg0.win 4).blk t0_0).view i
    rwa [emb t0_0 i] at h

theorem V_v2 (c : Dev nD) : (V m c main_v2 : S2x1024x12x128.Idx → EReal) = val (m (c, Proc.tc.devRef main_arg4)) := by
  entry_read; rfl

theorem i2 (c : Dev nD) (t : Fin cfg0.N) : (iblk m c 2 t : S2x1024x12x128.Idx → EReal) = val (m (c, Proc.tc.devRef main_arg4)) := by
  have h : ∀ t : Fin cfg0.N, win0_2.index t = ![0, 0, 0, 0] := (by decide +kernel : ∀ t : Fin grid0.N, _)
  refine Eq.trans (funext fun y => ?_) (V_v2 m c)
  refine congrArg (V m c main_v2) (funext fun a => Fin.ext ?_)
  match a with
  | ⟨0, _⟩ => show win0_2.index t 0 * 2 + 1 * (y 0).val = (y 0).val; rw [h]; show 0 * 2 + 1 * (y 0).val = _; omega
  | ⟨1, _⟩ => show win0_2.index t 1 * 1024 + 1 * (y 1).val = (y 1).val; rw [h]; show 0 * 1024 + 1 * (y 1).val = _; omega
  | ⟨2, _⟩ => show win0_2.index t 2 * 12 + 1 * (y 2).val = (y 2).val; rw [h]; show 0 * 12 + 1 * (y 2).val = _; omega
  | ⟨3, _⟩ => show win0_2.index t 3 * 128 + 1 * (y 3).val = (y 3).val; rw [h]; show 0 * 128 + 1 * (y 3).val = _; omega

theorem o2 (x0 x1 x2 : Vec Ideal S2x1024x12x128 .fp8e4m3) : (out0_5 x0 x1 x2 : S2x1024x12x128.Idx → EReal) = x2 := by
  have h0 : (![0, 0, 0, 0] : Fin 4 → Nat) = fun _ => 0 := by decide
  unfold out0_5
  refine (View.canon_unit_zero h0 _ _).trans ?_
  unfold k0_pay3
  rw [View.ld_unit_zero h0]
  exact shapeCast_id _ _

theorem final2 (c : Dev nD) : ((dats m 0 c).arrAt 5 cfg0.N : S2x1024x12x128.Idx → EReal) = val (m (c, Proc.tc.devRef main_arg4)) := by
  have h : ∀ t : Fin cfg0.N, win0_5.index t = ![0, 0, 0, 0] := (by decide +kernel : ∀ t : Fin grid0.N, _)
  have emb : ∀ (t : Fin cfg0.N) (y : S2x1024x12x128.Idx), ((cfg0.win 5).blk t).view.emb y = y := fun t y => by
    refine funext fun a => Fin.ext ?_
    match a with
    | ⟨0, _⟩ => show win0_5.index t 0 * 2 + 1 * (y 0).val = (y 0).val; rw [h]; show 0 * 2 + 1 * (y 0).val = _; omega
    | ⟨1, _⟩ => show win0_5.index t 1 * 1024 + 1 * (y 1).val = (y 1).val; rw [h]; show 0 * 1024 + 1 * (y 1).val = _; omega
    | ⟨2, _⟩ => show win0_5.index t 2 * 12 + 1 * (y 2).val = (y 2).val; rw [h]; show 0 * 12 + 1 * (y 2).val = _; omega
    | ⟨3, _⟩ => show win0_5.index t 3 * 128 + 1 * (y 3).val = (y 3).val; rw [h]; show 0 * 128 + 1 * (y 3).val = _; omega
  refine (dats m 0 c).arrAt_eq_of_cover 5 _ (fun t _ => ?_) fun i => ⟨t0_0, (by decide +kernel : win0_5.flush t0_0 = true), ?_⟩
  · show (cfg0.win 5).cut (grid0.coords t) ((dats m 0 c).after 5 t) = _
    rw [after0_5]
    funext y
    show (out0_5 (iblk m c 0 t) (iblk m c 1 t) (iblk m c 2 t) ((cfg0.win 5).xinj (grid0.coords t) y) : EReal) = val _ (((cfg0.win 5).blk t).view.emb y)
    rw [o2, i2]
    exact congrArg (val _) (emb t y).symm
  · have h := View.emb_mem_set ((cfg0.win 5).blk t0_0).view i
    rwa [emb t0_0 i] at h

/-- The result in terms of the arguments. -/
def result (aq : S2x1024x12x128.Idx → BitVec 8) (qs : S2x12.Idx → EReal) (ak : S2x1024x12x128.Idx → BitVec 8) (ks : S2x1024x12.Idx → EReal)
    (av : S2x1024x12x128.Idx → BitVec 8) (vs : S2x1024x12.Idx → EReal) : S2x1024x1536.Idx → EReal :=
  let S := S (val aq) (val ak) qs ks
  let tot := tot (msk ninf outer S)
  outp (arg own (ownArg S tot) (arg1 ninf8 past (pastArg S (lse S) (lmk S) tot))) vs (val av)

section Keep
variable (σ : Valuation τ sig (Elt Ideal))
theorem k1_arg5 : StableHlo.after (hostOps1 (F := Ideal)) σ (Proc.devRef .tc main_arg5) = σ (Proc.devRef .tc main_arg5) :=
  StableHlo.after_of_writes_sub (r := main_arg5) hostOps1 _ hostOps1_writes (by decide +kernel)
theorem k1_v3_2 : StableHlo.after (hostOps1 (F := Ideal)) σ (Proc.devRef .tc main_v3_2) = σ (Proc.devRef .tc main_v3_2) :=
  StableHlo.after_of_writes_sub (r := main_v3_2) hostOps1 _ hostOps1_writes (by decide +kernel)
theorem k1_1_v15 : StableHlo.after (hostOps1_1 (F := Ideal)) σ (Proc.devRef .tc main_v15) = σ (Proc.devRef .tc main_v15) :=
  StableHlo.after_of_writes_sub (r := main_v15) hostOps1_1 _ hostOps1_1_writes (by decide +kernel)
theorem k1_1_v25 : StableHlo.after (hostOps1_1 (F := Ideal)) σ (Proc.devRef .tc main_v25) = σ (Proc.devRef .tc main_v25) :=
  StableHlo.after_of_writes_sub (r := main_v25) hostOps1_1 _ hostOps1_1_writes (by decide +kernel)
theorem k1_1_v26 : StableHlo.after (hostOps1_1 (F := Ideal)) σ (Proc.devRef .tc main_v26) = σ (Proc.devRef .tc main_v26) :=
  StableHlo.after_of_writes_sub (r := main_v26) hostOps1_1 _ hostOps1_1_writes (by decide +kernel)
theorem k1_1_v56 : StableHlo.after (hostOps1_1 (F := Ideal)) σ (Proc.devRef .tc main_v56) = σ (Proc.devRef .tc main_v56) :=
  StableHlo.after_of_writes_sub (r := main_v56) hostOps1_1 _ hostOps1_1_writes (by decide +kernel)
theorem k1_1_v59 : StableHlo.after (hostOps1_1 (F := Ideal)) σ (Proc.devRef .tc main_v59) = σ (Proc.devRef .tc main_v59) :=
  StableHlo.after_of_writes_sub (r := main_v59) hostOps1_1 _ hostOps1_1_writes (by decide +kernel)
theorem k1_1_arg5 : StableHlo.after (hostOps1_1 (F := Ideal)) σ (Proc.devRef .tc main_arg5) = σ (Proc.devRef .tc main_arg5) :=
  StableHlo.after_of_writes_sub (r := main_arg5) hostOps1_1 _ hostOps1_1_writes (by decide +kernel)
theorem k1_1_v3_2 : StableHlo.after (hostOps1_1 (F := Ideal)) σ (Proc.devRef .tc main_v3_2) = σ (Proc.devRef .tc main_v3_2) :=
  StableHlo.after_of_writes_sub (r := main_v3_2) hostOps1_1 _ hostOps1_1_writes (by decide +kernel)
theorem k1_2_v56 : StableHlo.after (hostOps1_2 (F := Ideal)) σ (Proc.devRef .tc main_v56) = σ (Proc.devRef .tc main_v56) :=
  StableHlo.after_of_writes_sub (r := main_v56) hostOps1_2 _ hostOps1_2_writes (by decide +kernel)
theorem k1_2_v59 : StableHlo.after (hostOps1_2 (F := Ideal)) σ (Proc.devRef .tc main_v59) = σ (Proc.devRef .tc main_v59) :=
  StableHlo.after_of_writes_sub (r := main_v59) hostOps1_2 _ hostOps1_2_writes (by decide +kernel)
theorem k1_2_arg5 : StableHlo.after (hostOps1_2 (F := Ideal)) σ (Proc.devRef .tc main_arg5) = σ (Proc.devRef .tc main_arg5) :=
  StableHlo.after_of_writes_sub (r := main_arg5) hostOps1_2 _ hostOps1_2_writes (by decide +kernel)
theorem k1_2_v3_2 : StableHlo.after (hostOps1_2 (F := Ideal)) σ (Proc.devRef .tc main_v3_2) = σ (Proc.devRef .tc main_v3_2) :=
  StableHlo.after_of_writes_sub (r := main_v3_2) hostOps1_2 _ hostOps1_2_writes (by decide +kernel)
theorem k1_3_v56 : StableHlo.after (hostOps1_3 (F := Ideal)) σ (Proc.devRef .tc main_v56) = σ (Proc.devRef .tc main_v56) :=
  StableHlo.after_of_writes_sub (r := main_v56) hostOps1_3 _ hostOps1_3_writes (by decide +kernel)
theorem k1_3_v76 : StableHlo.after (hostOps1_3 (F := Ideal)) σ (Proc.devRef .tc main_v76) = σ (Proc.devRef .tc main_v76) :=
  StableHlo.after_of_writes_sub (r := main_v76) hostOps1_3 _ hostOps1_3_writes (by decide +kernel)
theorem k1_3_arg5 : StableHlo.after (hostOps1_3 (F := Ideal)) σ (Proc.devRef .tc main_arg5) = σ (Proc.devRef .tc main_arg5) :=
  StableHlo.after_of_writes_sub (r := main_arg5) hostOps1_3 _ hostOps1_3_writes (by decide +kernel)
theorem k1_3_v3_2 : StableHlo.after (hostOps1_3 (F := Ideal)) σ (Proc.devRef .tc main_v3_2) = σ (Proc.devRef .tc main_v3_2) :=
  StableHlo.after_of_writes_sub (r := main_v3_2) hostOps1_3 _ hostOps1_3_writes (by decide +kernel)
theorem k1_4_arg5 : StableHlo.after (hostOps1_4 (F := Ideal)) σ (Proc.devRef .tc main_arg5) = σ (Proc.devRef .tc main_arg5) :=
  StableHlo.after_of_writes_sub (r := main_arg5) hostOps1_4 _ hostOps1_4_writes (by decide +kernel)
theorem k1_4_v3_2 : StableHlo.after (hostOps1_4 (F := Ideal)) σ (Proc.devRef .tc main_v3_2) = σ (Proc.devRef .tc main_v3_2) :=
  StableHlo.after_of_writes_sub (r := main_v3_2) hostOps1_4 _ hostOps1_4_writes (by decide +kernel)
end Keep

set_option maxHeartbeats 2000000 in
theorem W95 (c : Dev nD) : Pipeline.afterTail₀ cfgs (dats m) 0 (V0 m) [hostOps1, hostOps1_1, hostOps1_2, hostOps1_3, hostOps1_4, hostOps1_5] c main_v95 =
    result (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) := by
  unfold Pipeline.afterTail₀
  rw [List.flatten_cons, List.flatten_cons, List.flatten_cons, List.flatten_cons, List.flatten_cons, List.flatten_cons, List.flatten_nil, List.append_nil, StableHlo.after_append, StableHlo.after_append, StableHlo.after_append, StableHlo.after_append, StableHlo.after_append]
  rw [at_v95, at_v84, k1_4_arg5, k1_4_v3_2, at_v83, k1_3_v56, k1_3_v76, k1_3_arg5, k1_3_v3_2, at_v76, at_v82, at_cst_8, k1_2_v56, k1_2_v59, k1_2_arg5, k1_2_v3_2,
    at_v65, k1_1_v15, k1_1_v25, k1_1_v26, k1_1_v56, k1_1_v59, k1_1_arg5, k1_1_v3_2, at_v15, at_v25, at_v26, at_v56, at_v59, at_v64, at_cst_5, k1_arg5, k1_v3_2]
  have w3 := (Pipeline.withArrays_arr spec0 launch0.win.arr_inj c (V0 m c) (fun w => (dats m 0 c).arrAt w cfg0.N) 3).trans (final0 m c)
  have w4 := (Pipeline.withArrays_arr spec0 launch0.win.arr_inj c (V0 m c) (fun w => (dats m 0 c).arrAt w cfg0.N) 4).trans (final1 m c)
  have w5 := (Pipeline.withArrays_arr spec0 launch0.win.arr_inj c (V0 m c) (fun w => (dats m 0 c).arrAt w cfg0.N) 5).trans (final2 m c)
  have a1 := (Pipeline.withArrays_of_ne spec0 c (V0 m c) (fun w => (dats m 0 c).arrAt w cfg0.N) main_arg1 (by exact (by decide : ∀ w, Pipeline.arrRef spec0 w ≠ main_arg1))).trans (V_main_arg1 m c)
  have a3 := (Pipeline.withArrays_of_ne spec0 c (V0 m c) (fun w => (dats m 0 c).arrAt w cfg0.N) main_arg3 (by exact (by decide : ∀ w, Pipeline.arrRef spec0 w ≠ main_arg3))).trans (V_main_arg3 m c)
  have a5 := (Pipeline.withArrays_of_ne spec0 c (V0 m c) (fun w => (dats m 0 c).arrAt w cfg0.N) main_arg5 (by exact (by decide : ∀ w, Pipeline.arrRef spec0 w ≠ main_arg5))).trans (V_main_arg5 m c)
  erw [a1, a3, a5, w3, w4, w5]
  rfl

/-- The run of the idealized reference: its result, the arguments unchanged. -/
theorem run : θ_run defs (onTc (τ := τ) (main (F := Ideal))) ⟨m, fun _ => 0, ρ⟩ fun r => ∀ c : Dev nD,
      r.2.mem ((c : Thread nD τ).loc main_v95) = result (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).2 main_v95 (Pipeline.mem_restRefs_of main_v95 (by decide) (by decide))).trans (W95 m c), h.2 c⟩)
    (θ_run_and (run_main m ρ) (unchanged m ρ))

end Cert.ReferenceIdeal.Out
-- ==== Proof.Join.lean ====
module

public import proofs.«01_k».proof.Proof.Sums
public import proofs.«01_k».proof.Proof.Read
public import proofs.«01_k».proof.Proof.RefArg
public import proofs.«01_k».proof.Proof.RefOut
public import proofs.«01_k».proof.Proof.RefRun

@[expose] public section

set_option maxRecDepth 16384

noncomputable section

/-! The kernel's result is the reference's, entry by entry, when the codes of queries and keys and their scales are numbers. -/

namespace Cert.Join

open Idealize.ShloMosaic hiding ix1 ix2 ix3 ix4 ix5 ix6
open Idealize.ShloMosaic.ValueIdx
open Cert.KernelIdeal (S2x1024x12x128 S2x12 S2x1024x12 S2x1024x1536)
open Cert.KernelIdeal.Struct Finset Cert.Soft

variable {aq ak : S2x1024x12x128.Idx → BitVec 8} {qs : S2x12.Idx → EReal} {ks : S2x1024x12.Idx → EReal}
  {Q K : S2x1024x12x128.Idx → ℝ} {QS : S2x12.Idx → ℝ} {KS : S2x1024x12.Idx → ℝ}

/-- A scaled score. -/
def score (Q K : S2x1024x12x128.Idx → ℝ) (QS : S2x12.Idx → ℝ) (KS : S2x1024x12.Idx → ℝ) (b h r k : Nat) : ℝ :=
  (∑ d : Fin 128, Q (nx4 b r h d.val) * K (nx4 b k h d.val)) * (QS (nx2 b h) * (1 / Real.sqrt 128)) * KS (nx3 b k h)

/-- The named score scale's value. -/
theorem scale_eq : (Named.named (F := Ideal) Cert.KernelIdeal.κ "score_scale" (φ := .f32) 0x3E0293EE#32 : EReal) =
    (((Real.sqrt 128)⁻¹ * (Real.log 2)⁻¹ : ℝ) : EReal) :=
  IdealRules.named_const.ideal_named_scalar _ _ _ _ rfl

/-- The kernel's scaled scores are the scores in powers of two. -/
theorem kernel_score (hQ : ∀ i, Cert.KernelIdeal.Out.val aq i = (Q i : EReal)) (hK : ∀ i, Cert.KernelIdeal.Out.val ak i = (K i : EReal))
    (hqs : ∀ i, qs i = (QS i : EReal)) (hks : ∀ i, ks i = (KS i : EReal)) (b h r n : Nat) :
    scoreOf (fun n d => Cert.KernelIdeal.Out.val ak (nx4 b (keyOf n) h d)) (fun r d => Cert.KernelIdeal.Out.val aq (nx4 b r h d)) n r *
      (ks (nx3 b (keyOf n) h) * (qs (nx2 b h) * Named.named (F := Ideal) Cert.KernelIdeal.κ "score_scale" (φ := .f32) 0x3E0293EE#32)) =
      ((score Q K QS KS b h r (keyOf n) / Real.log 2 : ℝ) : EReal) := by
  have e : scoreOf (fun n d => Cert.KernelIdeal.Out.val ak (nx4 b (keyOf n) h d)) (fun r d => Cert.KernelIdeal.Out.val aq (nx4 b r h d)) n r =
      ((∑ d : Fin 128, Q (nx4 b r h d.val) * K (nx4 b (keyOf n) h d.val) : ℝ) : EReal) := by
    unfold scoreOf
    rw [zero_add, coe_sum]
    refine Finset.sum_congr rfl fun d _ => ?_
    beta_reduce
    rw [hQ, hK, ← EReal.coe_mul, mul_comm]
  rw [e, scale_eq, hqs, hks, ← EReal.coe_mul, ← EReal.coe_mul, ← EReal.coe_mul]
  refine congrArg _ ?_
  unfold score
  ring

/-- The reference's scaled scores. -/
theorem reference_score (hQ : ∀ i, Cert.ReferenceIdeal.Out.val aq i = (Q i : EReal)) (hK : ∀ i, Cert.ReferenceIdeal.Out.val ak i = (K i : EReal))
    (hqs : ∀ i, qs i = (QS i : EReal)) (hks : ∀ i, ks i = (KS i : EReal)) (b : Fin 2) (h : Fin 12) (r : Fin 1024) (c : Fin 16) (j : Fin 64) :
    (Cert.ReferenceIdeal.Out.S (Cert.ReferenceIdeal.Out.val aq) (Cert.ReferenceIdeal.Out.val ak) qs ks (ix5 b h r c j) : EReal) =
      ((score Q K QS KS b.val h.val r.val (64 * c.val + j.val) : ℝ) : EReal) := by
  have hsq : Real.sqrt 128 ≠ 0 := (Real.sqrt_pos.2 (by norm_num)).ne'
  rw [Cert.ReferenceIdeal.Out.S_at, Cert.ReferenceIdeal.Out.n128_eq, Ideal.sqrt_coe, if_neg (by norm_num), Ideal.div_coe hsq, hqs, hks]
  rw [Finset.sum_congr rfl fun (d : Fin 128) _ => show Cert.ReferenceIdeal.Out.val aq (ix4 b r h d) * Cert.ReferenceIdeal.Out.val ak (ix4 b (Cert.ReferenceIdeal.Out.key c j) h d) =
    ((Q (ix4 b r h d) * K (ix4 b (Cert.ReferenceIdeal.Out.key c j) h d) : ℝ) : EReal) by rw [hQ, hK, EReal.coe_mul]]
  rw [← coe_sum, ← EReal.coe_mul, ← EReal.coe_mul, ← EReal.coe_mul]
  have hb : b.val % 2 = b.val := Nat.mod_eq_of_lt b.isLt
  have hh : h.val % 12 = h.val := Nat.mod_eq_of_lt h.isLt
  have hr : r.val % 1024 = r.val := Nat.mod_eq_of_lt r.isLt
  have hk : (64 * c.val + j.val) % 1024 = 64 * c.val + j.val := Nat.mod_eq_of_lt (by omega)
  have e2 : (nx2 b.val h.val : S2x12.Idx) = ix2 b h := ext2 hb hh
  have e3 : (nx3 b.val (64 * c.val + j.val) h.val : S2x1024x12.Idx) = ix3 b (Cert.ReferenceIdeal.Out.key c j) h := ext3 hb hk hh
  have eq : ∀ d : Fin 128, (nx4 b.val r.val h.val d.val : S2x1024x12x128.Idx) = ix4 b r h d := fun d => ext4 hb hr hh (Nat.mod_eq_of_lt d.isLt)
  have ek : ∀ d : Fin 128, (nx4 b.val (64 * c.val + j.val) h.val d.val : S2x1024x12x128.Idx) = ix4 b (Cert.ReferenceIdeal.Out.key c j) h d :=
    fun d => ext4 hb hk hh (Nat.mod_eq_of_lt d.isLt)
  unfold score
  rw [e2, e3, Finset.sum_congr rfl fun (d : Fin 128) _ => show Q (nx4 b.val r.val h.val d.val) * K (nx4 b.val (64 * c.val + j.val) h.val d.val) = _ by rw [eq d, ek d]]

/-- An entry of the kernel's result is the reference's entry. -/
theorem whole_eq (av : S2x1024x12x128.Idx → BitVec 8) (vs : S2x1024x12.Idx → EReal)
    (hQ : ∀ i, Cert.KernelIdeal.Out.val aq i = (Q i : EReal)) (hK : ∀ i, Cert.KernelIdeal.Out.val ak i = (K i : EReal))
    (hqs : ∀ i, qs i = (QS i : EReal)) (hks : ∀ i, ks i = (KS i : EReal)) (b : Fin 2) (h : Fin 12) (r : Fin 1024) (d : Fin 128) :
    Cert.KernelIdeal.Out.whole aq qs ak ks av vs b.val h.val r.val d.val =
      Cert.ReferenceIdeal.Out.result aq qs ak ks av vs (ix3 b r ⟨128 * h.val + d.val, by omega⟩) := by
  have hs : ∀ (c : Fin 16) (j : Fin 64), (Cert.ReferenceIdeal.Out.S (Cert.ReferenceIdeal.Out.val aq) (Cert.ReferenceIdeal.Out.val ak) qs ks (ix5 b h r c j) : EReal) =
      ((score Q K QS KS b.val h.val r.val (64 * c.val + j.val) : ℝ) : EReal) := reference_score hQ hK hqs hks b h r
  unfold Cert.ReferenceIdeal.Out.result Cert.KernelIdeal.Out.whole
  generalize Cert.ReferenceIdeal.Out.S (Cert.ReferenceIdeal.Out.val aq) (Cert.ReferenceIdeal.Out.val ak) qs ks = sc at *
  refine (outOf_eq (s := score Q K QS KS b.val h.val r.val) (vv := fun k => Cert.KernelIdeal.Out.val av (nx4 b.val k h.val d.val))
    (vss := fun k => vs (nx3 b.val k h.val)) r.isLt (fun n _ => kernel_score hQ hK hqs hks b.val h.val r.val n) (fun _ => rfl) (fun _ => rfl)).trans ?_
  refine Eq.trans ?_ (Cert.ReferenceIdeal.Out.outp_at _ vs (Cert.ReferenceIdeal.Out.val av) b h r d).symm
  refine Finset.sum_congr rfl fun k _ => ?_
  rw [Cert.ReferenceIdeal.Out.exp_arg_at hs]
  have hb : b.val % 2 = b.val := Nat.mod_eq_of_lt b.isLt
  have hh : h.val % 12 = h.val := Nat.mod_eq_of_lt h.isLt
  have hk : k.val % 1024 = k.val := Nat.mod_eq_of_lt k.isLt
  have e3 : (nx3 b.val k.val h.val : S2x1024x12.Idx) = ix3 b k h := ext3 hb hk hh
  have e4 : (nx4 b.val k.val h.val d.val : S2x1024x12x128.Idx) = ix4 b k h d := ext4 hb hk hh (Nat.mod_eq_of_lt d.isLt)
  have ek : 64 * (k.val / 64) + k.val % 64 = k.val := Nat.div_add_mod _ _
  show Cert.KernelIdeal.Out.val av (nx4 b.val k.val h.val d.val) * (((W (score Q K QS KS b.val h.val r.val) r.val k.val : ℝ) : EReal) * vs (nx3 b.val k.val h.val)) =
    Cert.ReferenceIdeal.Out.val av (ix4 b k h d) * (((W (score Q K QS KS b.val h.val r.val) r.val (64 * (k.val / 64) + k.val % 64) : ℝ) : EReal) * vs (ix3 b k h))
  rw [e3, e4, ek]
  rfl

end Cert.Join
-- ==== Proof.PreFacts.lean ====
module

public import proofs.«01_k».proof.Proof.Gen.Pre_pre
public import Idealize.ShloMosaic.Lib.ReduceAll
public import Idealize.ShloMosaic.PureOps.Ideal

@[expose] public section

set_option maxRecDepth 16384

noncomputable section

/-! What the precondition says: the codes of the queries and keys are numbers, and so are their scales. -/

namespace Cert.Pre_pre

open Idealize.ShloMosaic Idealize.SL.Sem
open Facts

/-- A code whose low seven bits are not all ones denotes a real. -/
theorem code_real (b : BitVec 8) (h : b &&& 127#8 ≠ 127#8) : ∃ x : ℝ, (Ideal.ofBits .fp8e4m3 b : EReal) = (x : EReal) := by
  have hb : ¬ ((b.extractLsb' 3 4).toNat = 15 ∧ (b.extractLsb' 0 3).toNat = 7) := by
    revert h; revert b; decide
  show ∃ x : ℝ, Ideal.e4m3fn b = (x : EReal)
  unfold Ideal.e4m3fn
  dsimp only
  rw [if_neg hb]
  split_ifs <;> exact ⟨_, rfl⟩

/-- The test on the widened code is the test on the code. -/
theorem wide (b : BitVec 8) (h : IntOp.cmpi .ne (IntOp.andi (BitVec.setWidth 32 b) 127#32) 127#32 = 1#1) : b &&& 127#8 ≠ 127#8 := by
  revert h; revert b; decide

/-- The pattern of infinity denotes infinity. -/
theorem inf_eq : (Ideal.ofBits .f32 0x7F800000#32 : EReal) = ⊤ := by
  simp [Ideal.ofBits, Ideal.ieee]

/-- A number of magnitude below infinity is a real. -/
theorem finite_real (x : EReal) (h : Ideal.cmp .olt (max x (-x)) ⊤ = 1#1) : ∃ y : ℝ, x = (y : EReal) := by
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => simp at hlt
  | top => simp at hlt
  | coe y => exact ⟨y, rfl⟩

/-- A conjunction that is one has both sides one. -/
theorem and_one {a b : BitVec 1} (h : IntOp.andi a b = 1#1) : a = 1#1 ∧ b = 1#1 := by
  revert h; revert a b; decide

instance : Subsingleton S_.Idx := ⟨fun a b => funext fun i => i.elim0⟩

variable (aq : IVec S2x1024x12x128 8) (qs : FVec Ideal S2x12 .f32) (ak : IVec S2x1024x12x128 8) (ks : FVec Ideal S2x1024x12 .f32)
  (av : IVec S2x1024x12x128 8) (vs : FVec Ideal S2x1024x12 .f32)

/-- Codes that pass the test are reals. -/
theorem codes_at {x : IVec S2x1024x12x128 8} {j : S_.Idx} (w : 8 < 32) (wb : S_.BroadcastsInDim S2x1024x12x128 (![] : Fin 0 → Fin S2x1024x12x128.rank)) (hr : S2x1024x12x128.ReducesTo [0, 1, 2, 3] S_) (hu : 0 < S_.numel)
    (h : Host.reduce IntOp.andi (cmpi .ne (andi (extui 32 x w) (broadcastInDim S2x1024x12x128 ![] wb (constantI S_ 32 127#32)))
      (broadcastInDim S2x1024x12x128 ![] wb (constantI S_ 32 127#32))) (constantI S_ 1 1#1) hr hu j = 1#1) (i : S2x1024x12x128.Idx) :
    ∃ y : ℝ, (Ideal.ofBits .fp8e4m3 (x i) : EReal) = (y : EReal) :=
  code_real _ (wide _ (Host.reduce_andi_all _ _ _ _ j h i))

/-- Scales that pass the test are reals. -/
theorem scales_at {s : Shape} {axes : List (Fin s.rank)} {x : FVec Ideal s .f32} {j : S_.Idx} (wb : S_.BroadcastsInDim s (![] : Fin 0 → Fin s.rank)) (hr : s.ReducesTo axes S_) (hu : 0 < S_.numel)
    (h : Host.reduce IntOp.andi (cmpf .olt (Host.absf x) (broadcastInDim s ![] wb (constant (F := Ideal) S_ .f32 0x7F800000#32))) (constantI S_ 1 1#1) hr hu j = 1#1) (i : s.Idx) :
    ∃ y : ℝ, (x i : EReal) = (y : EReal) := by
  have e : Ideal.cmp .olt (max (x i : EReal) (-(x i : EReal))) (Ideal.ofBits .f32 0x7F800000#32) = 1#1 := Host.reduce_andi_all _ _ _ _ j h i
  rw [inf_eq] at e
  exact finite_real _ e

/-- The precondition, read. -/
theorem reals (h : fn (F := Ideal) aq qs ak ks av vs = fun _ => 1#1) :
    (∀ i, ∃ y : ℝ, (Ideal.ofBits .fp8e4m3 (aq i) : EReal) = (y : EReal)) ∧ (∀ i, ∃ y : ℝ, (qs i : EReal) = (y : EReal)) ∧
    (∀ i, ∃ y : ℝ, (Ideal.ofBits .fp8e4m3 (ak i) : EReal) = (y : EReal)) ∧ (∀ i, ∃ y : ℝ, (ks i : EReal) = (y : EReal)) := by
  have e := congrFun h (fun i => i.elim0)
  unfold fn fn_part1 at e
  dsimp only at e
  obtain ⟨e, e4⟩ := and_one e
  obtain ⟨e, e3⟩ := and_one e
  obtain ⟨e1, e2⟩ := and_one e
  exact ⟨codes_at _ _ _ _ e1, scales_at _ _ _ e2, codes_at _ _ _ _ e3, scales_at _ _ _ e4⟩

end Cert.Pre_pre
-- ==== Proof.lean ====
module

public import proofs.«01_k».proof.Defs
public import proofs.«01_k».proof.Proof.Join
public import proofs.«01_k».proof.Proof.PreFacts
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_pre

@[expose] public section

set_option maxRecDepth 16384

noncomputable section

namespace Cert.Proof

open Idealize.ShloMosaic hiding ix1 ix2 ix3 ix4 ix5 ix6
open Idealize.ShloMosaic.ValueIdx
open Idealize.SL.Sem

/-- The two results agree wherever the precondition holds. -/
theorem results_eq (aq ak av : Cert.KernelIdeal.S2x1024x12x128.Idx → BitVec 8) (qs : Cert.KernelIdeal.S2x12.Idx → EReal)
    (ks vs : Cert.KernelIdeal.S2x1024x12.Idx → EReal) (h : Cert.Pre_pre.fn (F := Ideal) aq qs ak ks av vs = fun _ => 1#1) :
    (fun y : Cert.KernelIdeal.S2x1024x1536.Idx => Cert.KernelIdeal.Out.whole aq qs ak ks av vs (y 0).val ((y 2).val / 128) (y 1).val ((y 2).val % 128)) =
      Cert.ReferenceIdeal.Out.result aq qs ak ks av vs := by
  obtain ⟨hq, hqs, hk, hks⟩ := Cert.Pre_pre.reals aq qs ak ks av vs h
  choose Q hQ using hq
  choose QS hQS using hqs
  choose K hK using hk
  choose KS hKS using hks
  funext y
  have h0 : (y 0).val < 2 := (y 0).isLt
  have h1 : (y 1).val < 1024 := (y 1).isLt
  have h2 : (y 2).val < 1536 := (y 2).isLt
  have e := Cert.Join.whole_eq av vs hQ hK hQS hKS ⟨(y 0).val, h0⟩ ⟨(y 2).val / 128, by omega⟩ ⟨(y 1).val, h1⟩ ⟨(y 2).val % 128, by omega⟩
  refine e.trans (congrArg (Cert.ReferenceIdeal.Out.result aq qs ak ks av vs) ?_)
  exact Cert.KernelIdeal.Struct.ext3 rfl rfl (Nat.div_add_mod _ _)

/-- The named constants denote the values the claim names. -/
theorem preserves : Cert.preserves_Kernel_KernelIdeal :=
  ⟨⟨rfl, fun _ => rfl, rfl⟩, ⟨rfl, fun _ => rfl, rfl⟩⟩

/-- Kernel and reference end with equal results. -/
theorem algebraic : Cert.algebraic_KernelIdeal_ReferenceIdeal_pre_pre := by
  intro m g m' g' hpre hargs
  refine ⟨fun c => Cert.KernelIdeal.Out.G m c, Cert.KernelIdeal.Out.run m g, ?_⟩
  refine (θ_run _ _ _).mono (fun r h c => ⟨(h c).1.trans ?_, (h c).2⟩) (Cert.ReferenceIdeal.Out.run m' g')
  obtain ⟨a0, a1, a2, a3, a4, a5⟩ := hargs c
  have e := results_eq _ _ _ _ _ _ (hpre c)
  refine Eq.trans ?_ e.symm
  rw [← a0, ← a1, ← a2, ← a3, ← a4, ← a5]

/-- All the claims. -/
theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof
